-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_two_experts_KernelIdeal [hPre_two_experts_KernelIdeal : Cert.Pre_two_experts_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_two_experts_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_two_experts_ReferenceIdeal [hPre_two_experts_ReferenceIdeal : Cert.Pre_two_experts_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_two_experts_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_two_experts_KernelIdeal [hKernelIdeal : Cert.KernelIdeal.Facts] [hPre_two_experts_KernelIdeal : Cert.Pre_two_experts_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_two_experts_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_two_experts_ReferenceIdeal [hReferenceIdeal : Cert.ReferenceIdeal.Facts] [hPre_two_experts_ReferenceIdeal : Cert.Pre_two_experts_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_two_experts_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_two_experts_KernelIdeal [hKernelIdeal : Cert.KernelIdeal.Facts] [hReferenceIdeal : Cert.ReferenceIdeal.Facts] [hPre_two_experts_KernelIdeal : Cert.Pre_two_experts_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_two_experts_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![2, 256, 512]⟩ ⟨3, ![16, 256, 512]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v85) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_two_experts_KernelIdeal : Cert.Pre_two_experts_KernelIdeal.Facts) (hPre_two_experts_ReferenceIdeal : Cert.Pre_two_experts_ReferenceIdeal.Facts),
    quiescent_Kernel (hKernel := hKernel)
    ∧ quiescent_KernelIdeal (hKernelIdeal := hKernelIdeal)
    ∧ quiescent_KernelIdeal_pre_two_experts_KernelIdeal (hKernelIdeal := hKernelIdeal) (hPre_two_experts_KernelIdeal := hPre_two_experts_KernelIdeal)
    ∧ quiescent_ReferenceIdeal (hReferenceIdeal := hReferenceIdeal)
    ∧ quiescent_ReferenceIdeal_pre_two_experts_ReferenceIdeal (hReferenceIdeal := hReferenceIdeal) (hPre_two_experts_ReferenceIdeal := hPre_two_experts_ReferenceIdeal)
    ∧ preserves_Kernel_KernelIdeal
    ∧ algebraic_KernelIdeal_ReferenceIdeal_pre_two_experts_KernelIdeal (hKernelIdeal := hKernelIdeal) (hReferenceIdeal := hReferenceIdeal) (hPre_two_experts_KernelIdeal := hPre_two_experts_KernelIdeal)
-- ==== Pre_two_experts_KernelIdeal.lean ====
abbrev S512x256 : Shape := ⟨2, ![512, 256]⟩
abbrev S256x16 : Shape := ⟨2, ![256, 16]⟩
abbrev S512x2 : Shape := ⟨2, ![512, 2]⟩
abbrev S2x256x512 : Shape := ⟨3, ![2, 256, 512]⟩
abbrev S_ : Shape := ⟨0, ![]⟩
abbrev S512x1 : Shape := ⟨2, ![512, 1]⟩

class Facts : Prop where
  bcast_S_S512x2 : S_.BroadcastsInDim S512x2 (![] : Fin 0 → Fin S512x2.rank)
  slices_S512x2_S512x1_0_0 : S512x2.Slices ![0, 0] S512x1
  slices_S512x2_S512x1_0_1 : S512x2.Slices ![0, 1] S512x1
  bcast_S512x1_S512x2_0_1 : S512x1.BroadcastsInDim S512x2 (![0, 1] : Fin 2 → Fin S512x2.rank)

variable [Facts]

def fn {F : FTy → Type} [FloatOps F] (main_arg0 : FVec F S512x256 .bf16) (main_arg1 : FVec F S256x16 .bf16) (main_arg2 : IVec S512x2 32) (main_arg3 : FVec F S2x256x512 .bf16) : IVec S512x2 1 :=
  let main_c : IVec S_ 32 := constantI S_ 32 0#32
  let main_v0 : IVec S512x2 32 := broadcastInDim S512x2 ![] bcast_S_S512x2 main_c
  let main_v1 : IVec S512x2 1 := cmpi .sge main_arg2 main_v0
  let main_c_0 : IVec S_ 32 := constantI S_ 32 16#32
  let main_v2 : IVec S512x2 32 := broadcastInDim S512x2 ![] bcast_S_S512x2 main_c_0
  let main_v3 : IVec S512x2 1 := cmpi .slt main_arg2 main_v2
  let main_v4 : IVec S512x2 1 := andi main_v1 main_v3
  let main_v5 : IVec S512x1 32 := (extractStridedSlice S512x1 ![0, 0] · slices_S512x2_S512x1_0_0) main_arg2
  let main_v6 : IVec S512x1 32 := (extractStridedSlice S512x1 ![0, 1] · slices_S512x2_S512x1_0_1) main_arg2
  let main_v7 : IVec S512x1 1 := cmpi .ne main_v5 main_v6
  let main_v8 : IVec S512x2 1 := broadcastInDim S512x2 ![0, 1] bcast_S512x1_S512x2_0_1 main_v7
  let main_v9 : IVec S512x2 1 := andi main_v4 main_v8
  main_v9
-- ==== Pre_two_experts_ReferenceIdeal.lean ====
abbrev S512x256 : Shape := ⟨2, ![512, 256]⟩
abbrev S256x16 : Shape := ⟨2, ![256, 16]⟩
abbrev S512x2 : Shape := ⟨2, ![512, 2]⟩
abbrev S16x256x512 : Shape := ⟨3, ![16, 256, 512]⟩
abbrev S_ : Shape := ⟨0, ![]⟩
abbrev S512x1 : Shape := ⟨2, ![512, 1]⟩

class Facts : Prop where
  bcast_S_S512x2 : S_.BroadcastsInDim S512x2 (![] : Fin 0 → Fin S512x2.rank)
  slices_S512x2_S512x1_0_0 : S512x2.Slices ![0, 0] S512x1
  slices_S512x2_S512x1_0_1 : S512x2.Slices ![0, 1] S512x1
  bcast_S512x1_S512x2_0_1 : S512x1.BroadcastsInDim S512x2 (![0, 1] : Fin 2 → Fin S512x2.rank)

variable [Facts]

def fn {F : FTy → Type} [FloatOps F] (main_arg0 : FVec F S512x256 .bf16) (main_arg1 : FVec F S256x16 .bf16) (main_arg2 : IVec S512x2 32) (main_arg3 : FVec F S16x256x512 .bf16) : IVec S512x2 1 :=
  let main_c : IVec S_ 32 := constantI S_ 32 0#32
  let main_v0 : IVec S512x2 32 := broadcastInDim S512x2 ![] bcast_S_S512x2 main_c
  let main_v1 : IVec S512x2 1 := cmpi .sge main_arg2 main_v0
  let main_c_0 : IVec S_ 32 := constantI S_ 32 16#32
  let main_v2 : IVec S512x2 32 := broadcastInDim S512x2 ![] bcast_S_S512x2 main_c_0
  let main_v3 : IVec S512x2 1 := cmpi .slt main_arg2 main_v2
  let main_v4 : IVec S512x2 1 := andi main_v1 main_v3
  let main_v5 : IVec S512x1 32 := (extractStridedSlice S512x1 ![0, 0] · slices_S512x2_S512x1_0_0) main_arg2
  let main_v6 : IVec S512x1 32 := (extractStridedSlice S512x1 ![0, 1] · slices_S512x2_S512x1_0_1) main_arg2
  let main_v7 : IVec S512x1 1 := cmpi .ne main_v5 main_v6
  let main_v8 : IVec S512x2 1 := broadcastInDim S512x2 ![0, 1] bcast_S512x1_S512x2_0_1 main_v7
  let main_v9 : IVec S512x2 1 := andi main_v4 main_v8
  main_v9
-- ==== Kernel.lean ====
abbrev S512x256 : Shape := ⟨2, ![512, 256]⟩
abbrev S256x16 : Shape := ⟨2, ![256, 16]⟩
abbrev S512x2 : Shape := ⟨2, ![512, 2]⟩
abbrev S2x256x512 : Shape := ⟨3, ![2, 256, 512]⟩
abbrev S512x512 : Shape := ⟨2, ![512, 512]⟩
abbrev S3x176x512 : Shape := ⟨3, ![3, 176, 512]⟩
abbrev S3x168x512 : Shape := ⟨3, ![3, 168, 512]⟩
abbrev S3x3 : Shape := ⟨2, ![3, 3]⟩
abbrev S_ : Shape := ⟨0, ![]⟩
abbrev S512x16 : Shape := ⟨2, ![512, 16]⟩
abbrev S512 : Shape := ⟨1, ![512]⟩
abbrev S512x1 : Shape := ⟨2, ![512, 1]⟩
abbrev S1x256x512 : Shape := ⟨3, ![1, 256, 512]⟩
abbrev S256x512 : Shape := ⟨2, ![256, 512]⟩
abbrev S176x512 : Shape := ⟨2, ![176, 512]⟩
abbrev S176x256 : Shape := ⟨2, ![176, 256]⟩
abbrev S176x1 : Shape := ⟨2, ![176, 1]⟩
abbrev S1x176x512 : Shape := ⟨3, ![1, 176, 512]⟩
abbrev S1x1 : Shape := ⟨2, ![1, 1]⟩
abbrev S168x512 : Shape := ⟨2, ![168, 512]⟩
abbrev S168x256 : Shape := ⟨2, ![168, 256]⟩
abbrev S168x1 : Shape := ⟨2, ![168, 1]⟩
abbrev S1x168x512 : Shape := ⟨3, ![1, 168, 512]⟩

abbrev nBuf : Space → Nat
  | .hbm => 5
  | .vmem => 11
  | .smem => 0
  | _ => 0

abbrev bufTy : (tb : Table) → Fin (tcTables nBuf tb) → BufTy
  | .hbm, ⟨0, _⟩ => ⟨S512x256, .bf16⟩
  | .hbm, ⟨1, _⟩ => ⟨S256x16, .bf16⟩
  | .hbm, ⟨2, _⟩ => ⟨S512x2, .i32⟩
  | .hbm, ⟨3, _⟩ => ⟨S2x256x512, .bf16⟩
  | .hbm, ⟨4, _⟩ => ⟨S512x512, .f32⟩
  | .local _ .vmem, ⟨0, _⟩ => ⟨S512x256, .bf16⟩
  | .local _ .vmem, ⟨1, _⟩ => ⟨S256x16, .bf16⟩
  | .local _ .vmem, ⟨2, _⟩ => ⟨S512x2, .i32⟩
  | .local _ .vmem, ⟨3, _⟩ => ⟨S2x256x512, .bf16⟩
  | .local _ .vmem, ⟨4, _⟩ => ⟨S512x512, .f32⟩
  | .local _ .vmem, ⟨5, _⟩ => ⟨S3x176x512, .bf16⟩
  | .local _ .vmem, ⟨6, _⟩ => ⟨S3x168x512, .bf16⟩
  | .local _ .vmem, ⟨7, _⟩ => ⟨S3x168x512, .bf16⟩
  | .local _ .vmem, ⟨8, _⟩ => ⟨S3x176x512, .bf16⟩
  | .local _ .vmem, ⟨9, _⟩ => ⟨S3x168x512, .bf16⟩
  | .local _ .vmem, ⟨10, _⟩ => ⟨S3x168x512, .bf16⟩
  | _, _ => ⟨S512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  (ofTc nBuf bufTy 1 23 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_2 : BitVec 32 := 1#32
  let v7 : BitVec 32 := Scalar.muli v3 c1_i32_2
  let v8 : BitVec 32 := Scalar.addi c0_i32 v7
  v8.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_4 : BitVec 32 := 1#32
  let v9 : BitVec 32 := Scalar.muli v4 c1_i32_4
  let v10 : BitVec 32 := Scalar.addi c0_i32_5 v9
  v10.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_7 : BitVec 32 := 1#32
  let v11 : BitVec 32 := Scalar.muli v5 c1_i32_7
  let v12 : BitVec 32 := Scalar.addi c0_i32_8 v11
  v12.toNat
def k0_dev4 (d0 : Dev nD) : Nat :=
  let c0_i32_50 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_49 : BitVec 32 := 1#32
  let v98 : BitVec 32 := Scalar.muli v3 c1_i32_49
  let v99 : BitVec 32 := Scalar.addi c0_i32_50 v98
  v99.toNat
def k0_dev5 (d0 : Dev nD) : Nat :=
  let c0_i32_68 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_67 : BitVec 32 := 1#32
  let v125 : BitVec 32 := Scalar.muli v4 c1_i32_67
  let v126 : BitVec 32 := Scalar.addi c0_i32_68 v125
  v126.toNat
def k0_dev6 (d0 : Dev nD) : Nat :=
  let c0_i32_86 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_85 : BitVec 32 := 1#32
  let v152 : BitVec 32 := Scalar.muli v5 c1_i32_85
  let v153 : BitVec 32 := Scalar.addi c0_i32_86 v152
  v153.toNat
def k0_dev7 (d0 : Dev nD) : Nat :=
  let c0_i32_127 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_126 : BitVec 32 := 1#32
  let v184 : BitVec 32 := Scalar.muli v4 c1_i32_126
  let v185 : BitVec 32 := Scalar.addi c0_i32_127 v184
  v185.toNat
def k0_dev8 (d0 : Dev nD) : Nat :=
  let c0_i32_168 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_167 : BitVec 32 := 1#32
  let v216 : BitVec 32 := Scalar.muli v5 c1_i32_167
  let v217 : BitVec 32 := Scalar.addi c0_i32_168 v216
  v217.toNat
def k0_dev9 (d0 : Dev nD) : Nat :=
  let c0_i32_209 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_208 : BitVec 32 := 1#32
  let v248 : BitVec 32 := Scalar.muli v3 c1_i32_208
  let v249 : BitVec 32 := Scalar.addi c0_i32_209 v248
  v249.toNat
def k0_dev10 (d0 : Dev nD) : Nat :=
  let c0_i32_249 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_248 : BitVec 32 := 1#32
  let v280 : BitVec 32 := Scalar.muli v5 c1_i32_248
  let v281 : BitVec 32 := Scalar.addi c0_i32_249 v280
  v281.toNat
def k0_dev11 (d0 : Dev nD) : Nat :=
  let c0_i32_290 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_289 : BitVec 32 := 1#32
  let v312 : BitVec 32 := Scalar.muli v3 c1_i32_289
  let v313 : BitVec 32 := Scalar.addi c0_i32_290 v312
  v313.toNat
def k0_dev12 (d0 : Dev nD) : Nat :=
  let c0_i32_331 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_330 : BitVec 32 := 1#32
  let v344 : BitVec 32 := Scalar.muli v4 c1_i32_330
  let v345 : BitVec 32 := Scalar.addi c0_i32_331 v344
  v345.toNat
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x16 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S512x256 : Shape := ⟨2, ![512, 256]⟩
abbrev S256x16 : Shape := ⟨2, ![256, 16]⟩
abbrev S512x2 : Shape := ⟨2, ![512, 2]⟩
abbrev S16x256x512 : Shape := ⟨3, ![16, 256, 512]⟩
abbrev S512x16 : Shape := ⟨2, ![512, 16]⟩
abbrev S_ : Shape := ⟨0, ![]⟩
abbrev S512 : Shape := ⟨1, ![512]⟩
abbrev S512x1 : Shape := ⟨2, ![512, 1]⟩
abbrev S16x512x512 : Shape := ⟨3, ![16, 512, 512]⟩
abbrev S512x512 : Shape := ⟨2, ![512, 512]⟩

abbrev nBuf : Space → Nat
  | .hbm => 108
  | .vmem => 0
  | .smem => 0
  | _ => 0

abbrev bufTy : (tb : Table) → Fin (tcTables nBuf tb) → BufTy
  | .hbm, ⟨0, _⟩ => ⟨S512x256, .bf16⟩
  | .hbm, ⟨1, _⟩ => ⟨S256x16, .bf16⟩
  | .hbm, ⟨2, _⟩ => ⟨S512x2, .i32⟩
  | .hbm, ⟨3, _⟩ => ⟨S16x256x512, .bf16⟩
  | .hbm, ⟨4, _⟩ => ⟨S512x256, .f32⟩
  | .hbm, ⟨5, _⟩ => ⟨S256x16, .f32⟩
  | .hbm, ⟨6, _⟩ => ⟨S512x16, .f32⟩
  | .hbm, ⟨7, _⟩ => ⟨S_, .f32⟩
  | .hbm, ⟨8, _⟩ => ⟨S512, .f32⟩
  | .hbm, ⟨9, _⟩ => ⟨S512x1, .f32⟩
  | .hbm, ⟨10, _⟩ => ⟨S512x16, .f32⟩
  | .hbm, ⟨11, _⟩ => ⟨S512x16, .f32⟩
  | .hbm, ⟨12, _⟩ => ⟨S512x16, .f32⟩
  | .hbm, ⟨13, _⟩ => ⟨S_, .f32⟩
  | .hbm, ⟨14, _⟩ => ⟨S512, .f32⟩
  | .hbm, ⟨15, _⟩ => ⟨S512x1, .f32⟩
  | .hbm, ⟨16, _⟩ => ⟨S512x16, .f32⟩
  | .hbm, ⟨17, _⟩ => ⟨S512x16, .f32⟩
  | .hbm, ⟨18, _⟩ => ⟨S16x256x512, .f32⟩
  | .hbm, ⟨19, _⟩ => ⟨S16x512x512, .f32⟩
  | .hbm, ⟨20, _⟩ => ⟨S16x512x512, .f32⟩
  | .hbm, ⟨21, _⟩ => ⟨S512, .i32⟩
  | .hbm, ⟨22, _⟩ => ⟨S512x1, .i32⟩
  | .hbm, ⟨23, _⟩ => ⟨S512, .i32⟩
  | .hbm, ⟨24, _⟩ => ⟨S512x1, .i32⟩
  | .hbm, ⟨25, _⟩ => ⟨S512, .i32⟩
  | .hbm, ⟨26, _⟩ => ⟨S_, .i32⟩
  | .hbm, ⟨27, _⟩ => ⟨S512, .i32⟩
  | .hbm, ⟨28, _⟩ => ⟨S512, .i1⟩
  | .hbm, ⟨29, _⟩ => ⟨S_, .i32⟩
  | .hbm, ⟨30, _⟩ => ⟨S512, .i32⟩
  | .hbm, ⟨31, _⟩ => ⟨S512, .i32⟩
  | .hbm, ⟨32, _⟩ => ⟨S512, .i32⟩
  | .hbm, ⟨33, _⟩ => ⟨S_, .i32⟩
  | .hbm, ⟨34, _⟩ => ⟨S512, .i32⟩
  | .hbm, ⟨35, _⟩ => ⟨S512, .i1⟩
  | .hbm, ⟨36, _⟩ => ⟨S_, .i32⟩
  | .hbm, ⟨37, _⟩ => ⟨S512, .i32⟩
  | .hbm, ⟨38, _⟩ => ⟨S512, .i32⟩
  | .hbm, ⟨39, _⟩ => ⟨S512, .i32⟩
  | .hbm, ⟨40, _⟩ => ⟨S512x1, .i32⟩
  | .hbm, ⟨41, _⟩ => ⟨S512x1, .i32⟩
  | .hbm, ⟨42, _⟩ => ⟨S512x2, .i32⟩
  | .hbm, ⟨43, _⟩ => ⟨S512, .f32⟩
  | .hbm, ⟨44, _⟩ => ⟨S_, .i32⟩
  | .hbm, ⟨45, _⟩ => ⟨S512, .i32⟩
  | .hbm, ⟨46, _⟩ => ⟨S512, .i1⟩
  | .hbm, ⟨47, _⟩ => ⟨S_, .i32⟩
  | .hbm, ⟨48, _⟩ => ⟨S512, .i32⟩
  | .hbm, ⟨49, _⟩ => ⟨S512, .i32⟩
  | .hbm, ⟨50, _⟩ => ⟨S512, .i32⟩
  | .hbm, ⟨51, _⟩ => ⟨S_, .i32⟩
  | .hbm, ⟨52, _⟩ => ⟨S512, .i32⟩
  | .hbm, ⟨53, _⟩ => ⟨S512, .i1⟩
  | .hbm, ⟨54, _⟩ => ⟨S_, .i32⟩
  | .hbm, ⟨55, _⟩ => ⟨S512, .i32⟩
  | .hbm, ⟨56, _⟩ => ⟨S512, .i32⟩
  | .hbm, ⟨57, _⟩ => ⟨S512, .i32⟩
  | .hbm, ⟨58, _⟩ => ⟨S512x1, .i32⟩
  | .hbm, ⟨59, _⟩ => ⟨S512x1, .i32⟩
  | .hbm, ⟨60, _⟩ => ⟨S512x2, .i32⟩
  | .hbm, ⟨61, _⟩ => ⟨S512, .f32⟩
  | .hbm, ⟨62, _⟩ => ⟨S512, .f32⟩
  | .hbm, ⟨63, _⟩ => ⟨S512, .f32⟩
  | .hbm, ⟨64, _⟩ => ⟨S512x1, .f32⟩
  | .hbm, ⟨65, _⟩ => ⟨S_, .i32⟩
  | .hbm, ⟨66, _⟩ => ⟨S512, .i32⟩
  | .hbm, ⟨67, _⟩ => ⟨S512, .i1⟩
  | .hbm, ⟨68, _⟩ => ⟨S_, .i32⟩
  | .hbm, ⟨69, _⟩ => ⟨S512, .i32⟩
  | .hbm, ⟨70, _⟩ => ⟨S512, .i32⟩
  | .hbm, ⟨71, _⟩ => ⟨S512, .i32⟩
  | .hbm, ⟨72, _⟩ => ⟨S_, .i32⟩
  | .hbm, ⟨73, _⟩ => ⟨S512, .i32⟩
  | .hbm, ⟨74, _⟩ => ⟨S512, .i1⟩
  | .hbm, ⟨75, _⟩ => ⟨S_, .i32⟩
  | .hbm, ⟨76, _⟩ => ⟨S512, .i32⟩
  | .hbm, ⟨77, _⟩ => ⟨S512, .i32⟩
  | .hbm, ⟨78, _⟩ => ⟨S512, .i32⟩
  | .hbm, ⟨79, _⟩ => ⟨S512x1, .i32⟩
  | .hbm, ⟨80, _⟩ => ⟨S512x1, .i32⟩
  | .hbm, ⟨81, _⟩ => ⟨S512x2, .i32⟩
  | .hbm, ⟨82, _⟩ => ⟨S512x512, .f32⟩
  | .hbm, ⟨83, _⟩ => ⟨S512x512, .f32⟩
  | .hbm, ⟨84, _⟩ => ⟨S512x512, .f32⟩
  | .hbm, ⟨85, _⟩ => ⟨S512, .f32⟩
  | .hbm, ⟨86, _⟩ => ⟨S512x1, .f32⟩
  | .hbm, ⟨87, _⟩ => ⟨S_, .i32⟩
  | .hbm, ⟨88, _⟩ => ⟨S512, .i32⟩
  | .hbm, ⟨89, _⟩ => ⟨S512, .i1⟩
  | .hbm, ⟨90, _⟩ => ⟨S_, .i32⟩
  | .hbm, ⟨91, _⟩ => ⟨S512, .i32⟩
  | .hbm, ⟨92, _⟩ => ⟨S512, .i32⟩
  | .hbm, ⟨93, _⟩ => ⟨S512, .i32⟩
  | .hbm, ⟨94, _⟩ => ⟨S_, .i32⟩
  | .hbm, ⟨95, _⟩ => ⟨S512, .i32⟩
  | .hbm, ⟨96, _⟩ => ⟨S512, .i1⟩
  | .hbm, ⟨97, _⟩ => ⟨S_, .i32⟩
  | .hbm, ⟨98, _⟩ => ⟨S512, .i32⟩
  | .hbm, ⟨99, _⟩ => ⟨S512, .i32⟩
  | .hbm, ⟨100, _⟩ => ⟨S512, .i32⟩
  | .hbm, ⟨101, _⟩ => ⟨S512x1, .i32⟩
  | .hbm, ⟨102, _⟩ => ⟨S512x1, .i32⟩
  | .hbm, ⟨103, _⟩ => ⟨S512x2, .i32⟩
  | .hbm, ⟨104, _⟩ => ⟨S512x512, .f32⟩
  | .hbm, ⟨105, _⟩ => ⟨S512x512, .f32⟩
  | .hbm, ⟨106, _⟩ => ⟨S512x512, .f32⟩
  | .hbm, ⟨107, _⟩ => ⟨S512x512, .f32⟩
  | _, _ => ⟨S512x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c : Ref sig .tc := ⟨.hbm, 26, rfl⟩
abbrev main_v20 : Ref sig .tc := ⟨.hbm, 27, rfl⟩
abbrev main_v21 : Ref sig .tc := ⟨.hbm, 28, rfl⟩
abbrev main_c_1 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_c_2 : Ref sig .tc := ⟨.hbm, 33, rfl⟩
abbrev main_v25 : Ref sig .tc := ⟨.hbm, 34, rfl⟩
abbrev main_v26 : Ref sig .tc := ⟨.hbm, 35, rfl⟩
abbrev main_c_3 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_c_4 : Ref sig .tc := ⟨.hbm, 44, rfl⟩
abbrev main_v34 : Ref sig .tc := ⟨.hbm, 45, rfl⟩
abbrev main_v35 : Ref sig .tc := ⟨.hbm, 46, rfl⟩
abbrev main_c_5 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_c_6 : Ref sig .tc := ⟨.hbm, 51, rfl⟩
abbrev main_v39 : Ref sig .tc := ⟨.hbm, 52, rfl⟩
abbrev main_v40 : Ref sig .tc := ⟨.hbm, 53, rfl⟩
abbrev main_c_7 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_c_8 : Ref sig .tc := ⟨.hbm, 65, rfl⟩
abbrev main_v51 : Ref sig .tc := ⟨.hbm, 66, rfl⟩
abbrev main_v52 : Ref sig .tc := ⟨.hbm, 67, rfl⟩
abbrev main_c_9 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_c_10 : Ref sig .tc := ⟨.hbm, 72, rfl⟩
abbrev main_v56 : Ref sig .tc := ⟨.hbm, 73, rfl⟩
abbrev main_v57 : Ref sig .tc := ⟨.hbm, 74, rfl⟩
abbrev main_c_11 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_c_12 : Ref sig .tc := ⟨.hbm, 87, rfl⟩
abbrev main_v69 : Ref sig .tc := ⟨.hbm, 88, rfl⟩
abbrev main_v70 : Ref sig .tc := ⟨.hbm, 89, rfl⟩
abbrev main_c_13 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_c_14 : Ref sig .tc := ⟨.hbm, 94, rfl⟩
abbrev main_v74 : Ref sig .tc := ⟨.hbm, 95, rfl⟩
abbrev main_v75 : Ref sig .tc := ⟨.hbm, 96, rfl⟩
abbrev main_c_15 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩

abbrev nD : Nat := 1
abbrev τ : Topo := Topo.v7x

variable {F : FTy → Type} [FloatOps F]
-- ==== Proof.Mesh.lean ====
/-
# The butterfly's mesh: partners, buffers, slots and cells

Eight devices, three partners each: device `c` exchanges with `c xor 1`, `c xor 3` and `c xor 4`. The
rows of the result are cut into three stripes; stripe `s` exchanges in round `r` with partner number
`s + r` (modulo three), through slot `r` of the stripe's send and receive buffers. Everything about
a stripe and a round is stated once, at symbolic `s` and `r`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Butterfly

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

/-! ## Partners -/

/-- The three masks of the exchange: independent as bit vectors, so that together they reach all eight devices. -/
abbrev mask : Fin 3 → ℕ
  | 0 => 1
  | 1 => 3
  | 2 => 4

set_option backward.proofsInPublic true in
/-- Partner number `k` of device `c`. -/
def peer (k : Fin 3) (c : Dev nD) : Dev nD := ⟨(c.val ^^^ mask k) % 8, Nat.mod_lt _ (by decide)⟩

theorem peer_peer : ∀ (k : Fin 3) (c : Dev nD), peer k (peer k c) = c := by decide

/-- Exchanging with partner `k`, as a permutation of the mesh. -/
def swap (k : Fin 3) : Dev nD ≃ Dev nD := ⟨peer k, peer k, peer_peer k, peer_peer k⟩

theorem dev1_eq : ∀ c : Dev nD, (⟨k0_dev1 c, k0_dev1_lt c⟩ : Dev nD) = peer 0 c := by decide +kernel
theorem dev2_eq : ∀ c : Dev nD, (⟨k0_dev2 c, k0_dev2_lt c⟩ : Dev nD) = peer 1 c := by decide +kernel
theorem dev3_eq : ∀ c : Dev nD, (⟨k0_dev3 c, k0_dev3_lt c⟩ : Dev nD) = peer 2 c := by decide +kernel
theorem dev4_eq : ∀ c : Dev nD, (⟨k0_dev4 c, k0_dev4_lt c⟩ : Dev nD) = peer (0 + 0) c := by decide +kernel
theorem dev5_eq : ∀ c : Dev nD, (⟨k0_dev5 c, k0_dev5_lt c⟩ : Dev nD) = peer (1 + 0) c := by decide +kernel
theorem dev6_eq : ∀ c : Dev nD, (⟨k0_dev6 c, k0_dev6_lt c⟩ : Dev nD) = peer (2 + 0) c := by decide +kernel
theorem dev7_eq : ∀ c : Dev nD, (⟨k0_dev7 c, k0_dev7_lt c⟩ : Dev nD) = peer (0 + 1) c := by decide +kernel
theorem dev8_eq : ∀ c : Dev nD, (⟨k0_dev8 c, k0_dev8_lt c⟩ : Dev nD) = peer (1 + 1) c := by decide +kernel
theorem dev9_eq : ∀ c : Dev nD, (⟨k0_dev9 c, k0_dev9_lt c⟩ : Dev nD) = peer (2 + 1) c := by decide +kernel
theorem dev10_eq : ∀ c : Dev nD, (⟨k0_dev10 c, k0_dev10_lt c⟩ : Dev nD) = peer (0 + 2) c := by decide +kernel
theorem dev11_eq : ∀ c : Dev nD, (⟨k0_dev11 c, k0_dev11_lt c⟩ : Dev nD) = peer (1 + 2) c := by decide +kernel
theorem dev12_eq : ∀ c : Dev nD, (⟨k0_dev12 c, k0_dev12_lt c⟩ : Dev nD) = peer (2 + 2) c := by decide +kernel

/-! ## Stripes, buffers, slots -/

/-- The rows of stripe `s`. -/
abbrev rows : Fin 3 → ℕ
  | 0 => 176
  | 1 => 168
  | 2 => 168

/-- A stripe's buffer, its slot as a slab of the buffer, and the slot as a matrix. -/
abbrev Buf3 (s : Fin 3) : Shape := ⟨3, ![3, rows s, 512]⟩
abbrev Slab (s : Fin 3) : Shape := ⟨3, ![1, rows s, 512]⟩
abbrev Mat (s : Fin 3) : Shape := ⟨2, ![rows s, 512]⟩

/-- The send buffers -/
def sbuf : (s : Fin 3) → Memref sig .tc .vmem (Buf3 s) .bf16
  | 0 => Memref.whole cc0_scratch0
  | 1 => Memref.whole cc0_scratch1
  | 2 => Memref.whole cc0_scratch2
/-- and the receive buffers. -/
def rbuf : (s : Fin 3) → Memref sig .tc .vmem (Buf3 s) .bf16
  | 0 => Memref.whole cc0_scratch3
  | 1 => Memref.whole cc0_scratch4
  | 2 => Memref.whole cc0_scratch5

theorem sbuf_set (s : Fin 3) : (sbuf s).view.set = Finset.univ := by fin_cases s <;> exact View.set_whole _
theorem rbuf_set (s : Fin 3) : (rbuf s).view.set = Finset.univ := by fin_cases s <;> exact View.set_whole _

theorem slab_inb (s r : Fin 3) : ∀ a, (![r.val, 0, 0] : Fin 3 → ℕ) a + (Slab s).size a ≤ (Buf3 s).size a := by
  intro a
  have := r.isLt
  fin_cases a
  · show r.val + 1 ≤ 3; omega
  · show 0 + rows s ≤ rows s; omega
  · show 0 + 512 ≤ 512; omega

/-- Slot `r` of a stripe's buffer. -/
abbrev rct (s r : Fin 3) : Rect (Buf3 s) := Rect.unit ![r.val, 0, 0] (Slab s).size (slab_inb s r)

theorem slab_squeezes : ∀ s : Fin 3, (Slab s).Squeezes (Mat s) := by decide
theorem slab_casts (s : Fin 3) : (Slab s).ShapeCasts (Mat s) := by fin_cases s <;> decide
theorem mat_casts (s : Fin 3) : (Mat s).ShapeCasts (Slab s) := by fin_cases s <;> decide

/-- Slot `r` of the buffer `M`, as a matrix. -/
abbrev slotOf {s : Fin 3} (M : Memref sig .tc .vmem (Buf3 s) .bf16) (r : Fin 3) : Memref sig .tc .vmem (Mat s) .bf16 :=
  (M.slice (rct s r) (fun _ => rfl)).squeeze (Mat s) (slab_squeezes s)

abbrev sslot (s r : Fin 3) : Memref sig .tc .vmem (Mat s) .bf16 := slotOf (sbuf s) r
abbrev rslot (s r : Fin 3) : Memref sig .tc .vmem (Mat s) .bf16 := slotOf (rbuf s) r

/-- The elements of slot `r`, as elements of the buffer's. -/
abbrev slotSet {s : Fin 3} (M : Memref sig .tc .vmem (Buf3 s) .bf16) (r : Fin 3) : Finset M.view.ty.Idx := (slotOf M r).view.set

theorem slot_set {s : Fin 3} (M : Memref sig .tc .vmem (Buf3 s) .bf16) (r : Fin 3) :
    (slotOf M r).view.set = (rct s r).set.map M.view.emb := by
  show ((M.view.slice (rct s r)).reshape _ _).set = _
  rw [View.set_reshape, View.set_slice]

theorem access_set {s : Fin 3} (M : Memref sig .tc .vmem (Buf3 s) .bf16) (r : Fin 3) :
    (M.access (rct s r)).set = (slotOf M r).view.set := by rw [slot_set, View.set_slice]

theorem slots_disjoint {s : Fin 3} (M : Memref sig .tc .vmem (Buf3 s) .bf16) {r r' : Fin 3} (h : r ≠ r') :
    Disjoint (slotOf M r).view.set (slotOf M r').view.set := by
  rw [slot_set, slot_set, Finset.disjoint_map]
  refine Rect.unit_disjoint (0 : Fin 3) ?_
  show r.val + 1 ≤ r'.val ∨ r'.val + 1 ≤ r.val
  have : r.val ≠ r'.val := fun e => h (Fin.ext e)
  omega

theorem slots_cover {s : Fin 3} (M : Memref sig .tc .vmem (Buf3 s) .bf16) (hM : M.view.set = Finset.univ) :
    (Finset.univ.biUnion fun r : Fin 3 => slotSet M r) = Finset.univ := by
  refine Finset.eq_univ_iff_forall.mpr fun i => ?_
  have hi : i ∈ M.view.set := hM ▸ Finset.mem_univ i
  obtain ⟨y, -, rfl⟩ := Finset.mem_map.mp hi
  obtain ⟨r, hr⟩ : ∃ r : Fin 3, y ∈ (rct s r).set :=
    ⟨⟨(y (0 : Fin 3)).val, (y (0 : Fin 3)).isLt⟩, Rect.mem_set_unit.mpr fun a => by
      fin_cases a
      · exact ⟨le_rfl, Nat.lt_succ_self _⟩
      · exact ⟨Nat.zero_le _, (y (1 : Fin 3)).isLt.trans_eq (Nat.zero_add _).symm⟩
      · exact ⟨Nat.zero_le _, (y (2 : Fin 3)).isLt.trans_eq (Nat.zero_add _).symm⟩⟩
  refine Finset.mem_biUnion.mpr ⟨r, Finset.mem_univ _, ?_⟩
  show M.view.emb y ∈ (slotOf M r).view.set
  rw [slot_set]
  exact Finset.mem_map.mpr ⟨y, hr, rfl⟩

/-- The units one exchange of stripe `s` credits each of its two cells. -/
def amt (s r : Fin 3) : ℕ := (rslot s r).view.dmaCredit
theorem amt_pos (s r : Fin 3) : 0 < amt s r := View.dmaCredit_pos _ (Shape.numel_pos fun a => by fin_cases s <;> fin_cases a <;> exact Nat.succ_pos _)
theorem sslot_credit (s r : Fin 3) : (sslot s r).view.dmaCredit = amt s r := by fin_cases s <;> rfl

/-! ## Cells -/

/-- The runtime's barrier semaphore, and the send and receive semaphores of stripe `s`, round `r`. -/
abbrev barS : Sem sig := (SemArray.scalar (sig.barrier 0 rfl) : Sems sig S_).sem
abbrev sendS (s r : Fin 3) : DmaSem sig := ⟨5 + 3 * s.val + r.val, by have := s.isLt; have := r.isLt; show _ < 23; omega⟩
abbrev recvS (s r : Fin 3) : DmaSem sig := ⟨14 + 3 * s.val + r.val, by have := s.isLt; have := r.isLt; show _ < 23; omega⟩

/-- A device's cells: its barrier, and for each direction (`true` = receive), stripe and round, one. -/
abbrev Cx : Type := Option (Bool × Fin 3 × Fin 3)
/-- A device's own cells: all but the barrier. -/
abbrev Ox : Type := Bool × Fin 3 × Fin 3

def osem : Ox → SemLoc sig
  | (false, s, r) => .dma (sendS s r)
  | (true, s, r) => .dma (recvS s r)
def csem : Cx → SemLoc sig
  | none => .reg barS
  | some k => osem k

/-- Which of them a semaphore is. -/
def cellIx : SemLoc sig → Option Cx
  | .reg _ => some none
  | .dma q =>
    if h : 5 ≤ q.val ∧ q.val < 14 then some (some (false, ⟨(q.val - 5) / 3, by omega⟩, ⟨(q.val - 5) % 3, by omega⟩))
    else if h : 14 ≤ q.val then some (some (true, ⟨(q.val - 14) / 3, by have := q.isLt; have : q.val < 23 := this; omega⟩, ⟨(q.val - 14) % 3, by omega⟩))
    else none

theorem cellIx_csem : ∀ k : Cx, cellIx (csem k) = some k := by decide

theorem csem_injective : Function.Injective csem := fun a b h => by
  have := congrArg cellIx h
  rwa [cellIx_csem, cellIx_csem, Option.some.injEq] at this

abbrev kcell (ck : Dev nD × Cx) : GSem nD τ sig := ((ck.1 : Thread nD τ), csem ck.2)
abbrev barCell (c : Dev nD) : GSem nD τ sig := kcell (c, none)
abbrev sendCell (c : Dev nD) (s r : Fin 3) : GSem nD τ sig := kcell (c, some (false, s, r))
abbrev recvCell (c : Dev nD) (s r : Fin 3) : GSem nD τ sig := kcell (c, some (true, s, r))

theorem kcell_injective : Function.Injective (kcell : Dev nD × Cx → GSem nD τ sig) := by
  rintro ⟨c, k⟩ ⟨c', k'⟩ h
  have h1 : c = c' := congrArg (fun g : GSem nD τ sig => g.1.1) h
  have h2 : k = k' := csem_injective (congrArg Prod.snd h)
  rw [h1, h2]

end Cert.Butterfly

end
-- ==== Proof.Blocks.lean ====
/-
# What the butterfly's arrays hold

The contents of every buffer of the exchange, as functions of the arrays at launch: device `c`'s own share
of the result (`acc0`: its two experts' weighted products, stripe by stripe), what it has accumulated before
round `r` (`acc`), what it sends in the round (`sent`), what arrives (`landed`), and the result (`outAt`).
-/
module

public import proofs.«01_k».proof.Proof.Mesh
public import Idealize.ShloMosaic.Lib.ValueIdxCore

@[expose] public section

noncomputable section

namespace Cert.Butterfly

open Cert.KernelIdeal Cert.KernelIdeal.Gen

open Idealize.ShloMosaic
open Idealize.ShloMosaic.TcCoe
open Idealize.ShloMosaic.ValueIdx (ix2)
open Idealize.SL.Sem

variable {F : FTy → Type} [FloatOps F]
variable (m : (ℓ : Loc nD τ sig) → Buf (Elt F) ℓ)

/-! ## A device's operands -/

/-- The token block, the router, the two route columns and the two local experts, as device `c` holds them. -/
def opX (c : Dev nD) : Vec F S512x256 .bf16 := m ((c : Thread nD τ).loc main_arg0)
def opR (c : Dev nD) : Vec F S256x16 .bf16 := m ((c : Thread nD τ).loc main_arg1)
def opI (c : Dev nD) : Vec F S512x2 .i32 := m ((c : Thread nD τ).loc main_arg2)
def opE (c : Dev nD) : Vec F S2x256x512 .bf16 := m ((c : Thread nD τ).loc main_arg3)

/-- The two route columns and the two local experts, as the kernel reads them. -/
def col0 (c : Dev nD) : Vec F S512x1 .i32 := fun x => opI m c ((Rect.unit (s := S512x2) ![0, 0] S512x1.size inb_S512x2_S512x1_0_0).emb x)
def col1 (c : Dev nD) : Vec F S512x1 .i32 := fun x => opI m c ((Rect.unit (s := S512x2) ![0, 1] S512x1.size inb_S512x2_S512x1_0_1).emb x)
def exp0 (c : Dev nD) : Vec F S1x256x512 .bf16 := fun x => opE m c ((Rect.unit (s := S2x256x512) ![0, 0, 0] S1x256x512.size inb_S2x256x512_S1x256x512_0_0_0).emb x)
def exp1 (c : Dev nD) : Vec F S1x256x512 .bf16 := fun x => opE m c ((Rect.unit (s := S2x256x512) ![1, 0, 0] S1x256x512.size inb_S2x256x512_S1x256x512_1_0_0).emb x)

/-! ## A device's own share -/

/-- The device's number as the kernel computes it. -/
def devWord (c : Dev nD) : BitVec 32 := Scalar.remsi (Scalar.divsi (Dev.word c) 1#32) 8#32

/-- The routing probabilities. -/
def probs (c : Dev nD) : FVec F S512x16 .f32 := k0_pay2 (opX m c) (opR m c)
/-- The weights of the device's first and second expert, row by row. -/
def wt0 (c : Dev nD) : FVec F S512x1 .f32 := k0_pay6 (devWord c) (probs m c) (k0_pay3 (col0 m c)) (col1 m c)
def hit1 (c : Dev nD) : IVec S512x1 1 := k0_pay7 (devWord c) (k0_pay3 (col0 m c)) (col1 m c)
def frac1 (c : Dev nD) : FVec F S512x1 .f32 := k0_pay8 (devWord c) (probs m c) (k0_pay3 (col0 m c)) (col1 m c)
def wt1 (c : Dev nD) : FVec F S512x1 .f32 := k0_pay9 (hit1 m c) (frac1 m c)

/-- Device `c`'s share of stripe `s`: its two experts' weighted products on the stripe's rows. -/
def acc0 (c : Dev nD) : (s : Fin 3) → FVec F (Mat s) .f32
  | 0 => k0_pay12 (k0_pay1 (opX m c)) (wt0 m c) (hit1 m c) (frac1 m c) (exp0 m c) (exp1 m c)
  | 1 => k0_pay14 (k0_pay1 (opX m c)) (wt0 m c) (wt1 m c) (k0_pay10 (exp0 m c)) (k0_pay11 (exp1 m c))
  | 2 => k0_pay19 (k0_pay16 (k0_pay1 (opX m c)) (wt0 m c) (k0_pay10 (exp0 m c))) (k0_pay17 (k0_pay1 (opX m c)) (k0_pay11 (exp1 m c)))
      (k0_pay18 (wt1 m c))

/-! ## The rounds -/

/-- What device `c` has accumulated of stripe `s` before round `r`: each round adds what the round's partner had,
    rounded to the exchange's format. -/
def acc (s : Fin 3) : ℕ → Dev nD → FVec F (Mat s) .f32
  | 0, c => acc0 m c s
  | r + 1, c => addf (acc s r c) (extf .f32 (truncf .bf16 (acc s r (peer (s + Fin.ofNat 3 r) c)) bitsLt_bf16_f32) bitsLt_bf16_f32)

/-- What device `c` sends of stripe `s` in round `r`, -/
def sent (s r : Fin 3) (c : Dev nD) : FVec F (Mat s) .bf16 := truncf .bf16 (acc m s r.val c) bitsLt_bf16_f32
/-- and what its partner sends it. -/
def landed (s r : Fin 3) (c : Dev nD) : FVec F (Mat s) .bf16 := sent m s r (peer (s + r) c)

theorem acc_succ (s r : Fin 3) (c : Dev nD) :
    acc m s (r.val + 1) c = addf (acc m s r.val c) (extf .f32 (landed m s r c) bitsLt_bf16_f32) := by
  rw [acc]
  unfold landed sent
  rw [show Fin.ofNat 3 r.val = r from Fin.ext (Nat.mod_eq_of_lt r.isLt)]

theorem landed_peer (s r : Fin 3) (c : Dev nD) : landed m s r (peer (s + r) c) = sent m s r c := by
  unfold landed; rw [peer_peer]

/-! ## The result -/

/-- Row `i` of the result: the stripe it lies in, and the row of the stripe. -/
def outAt (c : Dev nD) : FVec F S512x512 .f32 := fun x =>
  if h0 : (x (0 : Fin 2)).val < 176 then acc m 0 3 c (ix2 ⟨(x (0 : Fin 2)).val, h0⟩ (x (1 : Fin 2)))
  else if h1 : (x (0 : Fin 2)).val < 344 then acc m 1 3 c (ix2 ⟨(x (0 : Fin 2)).val - 176, by show _ < 168; omega⟩ (x (1 : Fin 2)))
  else acc m 2 3 c (ix2 ⟨(x (0 : Fin 2)).val - 344, by
    have : (x (0 : Fin 2)).val < 512 := (x (0 : Fin 2)).isLt
    show _ < 168; omega⟩ (x (1 : Fin 2)))

end Cert.Butterfly

end
-- ==== Proof.Protocol.lean ====
/-
# The butterfly's protocol

Every cell has one round. A device's barrier cell is paid three times, once by each partner; partner
number `k`'s unit hands over, for every stripe, the slot of the partner's receive buffer that this device
will write when the two exchange. A send cell is paid by the transfer that left, and hands back the slot it was sent
from; a receive cell by the transfer that arrived, and hands over the slot it arrived in. The payloads state what
the slots hold.
-/
module

public import proofs.«01_k».proof.Proof.Blocks

@[expose] public section

noncomputable section

namespace Cert.Butterfly

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's rounds beside the butterfly's, whose duties are the three partners -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Slots held -/

/-- Device `c` holds slot `M`, at some contents. -/
def slotAny (c : Dev nD) {s : Fin 3} (M : Memref sig .tc .vmem (Mat s) .bf16) : sProp 𝕄 :=
  iprop(∃ f : Buf (Elt F) (M.view.loc (c : Thread nD τ)), M.view.loc (c : Thread nD τ) ↦[M.view.set]{fullShare} f)

/-- Device `c` holds slot `M`, reading `X`. -/
def slotIs (c : Dev nD) {s : Fin 3} (M : Memref sig .tc .vmem (Mat s) .bf16) (X : FVec F (Mat s) .bf16) : sProp 𝕄 :=
  iprop(∃ f : Buf (Elt F) (M.view.loc (c : Thread nD τ)), ⌜M.view.read (Elt F) f = X⌝ ∗ (M.view.loc (c : Thread nD τ) ↦[M.view.set]{fullShare} f))

omit [FloatOps F] in
instance slotAny_storable (c : Dev nD) {s : Fin 3} (M : Memref sig .tc .vmem (Mat s) .bf16) :
    BI.Storable (upEmb : UEmb _ 𝕄) (slotAny (F := F) c M) := by unfold slotAny; infer_instance
omit [FloatOps F] in
instance slotIs_storable (c : Dev nD) {s : Fin 3} (M : Memref sig .tc .vmem (Mat s) .bf16) (X : FVec F (Mat s) .bf16) :
    BI.Storable (upEmb : UEmb _ 𝕄) (slotIs (F := F) c M X) := by unfold slotIs; infer_instance

omit [FloatOps F] in
theorem slotIs_any (c : Dev nD) {s : Fin 3} (M : Memref sig .tc .vmem (Mat s) .bf16) (X : FVec F (Mat s) .bf16) :
    (slotIs c M X : sProp 𝕄) ⊢ slotAny c M := by
  unfold slotIs slotAny
  iintro ⟨%f, -, H⟩
  iexists f; iexact H

/-! ## The schedule -/

/-- What partner number `k`'s signal hands device `c`: of each stripe, the partner's receive slot for the round in which the two
    exchange it. -/
def barPay (k : Fin 3) (c : Dev nD) : sProp 𝕄 := bigSep Finset.univ fun s : Fin 3 => slotAny (peer k c) (rslot s (k - s))

omit [FloatOps F] in
instance barPay_storable (k : Fin 3) (c : Dev nD) : BI.Storable (upEmb : UEmb _ 𝕄) (barPay (F := F) k c) := by unfold barPay; infer_instance

/-- The payload of a cell's duty. -/
def pay (c : Dev nD) (d : Fin 3) : Option Cx → sProp 𝕄
  | some none => barPay d c
  | some (some (false, s, r)) => slotIs c (sslot s r) (sent m s r c)
  | some (some (true, s, r)) => slotIs c (rslot s r) (landed m s r c)
  | none => iprop(emp)

instance pay_storable (c : Dev nD) (d : Fin 3) : ∀ k : Option Cx, BI.Storable (upEmb : UEmb _ 𝕄) (pay (F := F) m c d k)
  | some none => by unfold pay; infer_instance
  | some (some (false, s, r)) => by unfold pay; infer_instance
  | some (some (true, s, r)) => by unfold pay; infer_instance
  | none => by unfold pay; infer_instance

/-- A cell's duties … -/
def dut : Option Cx → Finset (Fin 3)
  | some none => Finset.univ
  | some (some _) => {0}
  | none => ∅
/-- … and the units of one. -/
def unit : Option Cx → ℕ
  | some (some (_, s, r)) => amt s r
  | _ => 1

theorem unit_pos : ∀ k, 0 < unit k
  | some (some (_, s, r)) => amt_pos s r
  | some none => Nat.one_pos
  | none => Nat.one_pos

def sched : Rounds.Schedule (GSem nD τ sig) (Fin 3) 𝕄 where
  duties g r := if r = 0 then dut (cellIx g.2) else ∅
  unitless _ := False
  amount g _ _ := unit (cellIx g.2)
  payload g _ d := pay m g.1.1 d (cellIx g.2)
  amount_pos g _ _ _ := unit_pos _

instance sched_payload_storable (g : GSem nD τ sig) (r : ℕ) (d : Fin 3) :
    BI.Storable (upEmb : UEmb _ 𝕄) ((sched (F := F) m).payload g r d) := pay_storable m _ _ _

theorem duties_at (c : Dev nD) (k : Cx) : (sched (F := F) m).duties (kcell (c, k)) 0 = dut (some k) := by
  show (if 0 = 0 then dut (cellIx (csem k)) else ∅) = _
  rw [if_pos rfl, cellIx_csem]
theorem duties_later (g : GSem nD τ sig) : ∀ r, 1 ≤ r → (sched (F := F) m).duties g r = ∅ :=
  fun r hr => if_neg (by omega)
theorem amount_at (c : Dev nD) (k : Cx) (d : Fin 3) : (sched (F := F) m).amount (kcell (c, k)) 0 d = unit (some k) := by
  show unit (cellIx (csem k)) = _
  rw [cellIx_csem]
theorem payload_at (c : Dev nD) (k : Cx) (d : Fin 3) : (sched (F := F) m).payload (kcell (c, k)) 0 d = pay m c d (some k) := by
  show pay m c d (cellIx (csem k)) = _
  rw [cellIx_csem]

theorem expect_bar (c : Dev nD) : (sched (F := F) m).expect (barCell c) 0 = 3 := by
  unfold Schedule.expect Schedule.amountOf
  rw [duties_at, Finset.sum_congr rfl fun d _ => amount_at m c none d]; rfl
theorem expect_own (c : Dev nD) (b : Bool) (s r : Fin 3) : (sched (F := F) m).expect (kcell (c, some (b, s, r))) 0 = amt s r := by
  unfold Schedule.expect Schedule.amountOf
  rw [duties_at]; show ∑ d ∈ {0}, _ = _
  rw [Finset.sum_singleton, amount_at]; rfl

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

theorem rest_bar (c : Dev nD) :
    bigSep ((sched (F := F) m).duties (barCell c) 0 \ ∅) (fun d => (sched (F := F) m).payload (barCell c) 0 d)
      = iprop(barPay 0 c ∗ barPay 1 c ∗ barPay 2 c) := by
  rw [Finset.sdiff_empty, duties_at]; show bigSep Finset.univ _ = _
  rw [bigSep_fin3, payload_at, payload_at, payload_at]; rfl
theorem rest_own (c : Dev nD) (k : Ox) :
    bigSep ((sched (F := F) m).duties (kcell (c, some k)) 0 \ ∅) (fun d => (sched (F := F) m).payload (kcell (c, some k)) 0 d)
      = pay m c 0 (some (some k)) := by
  rw [Finset.sdiff_empty, duties_at]; show bigSep {0} _ = _
  rw [bigSep_singleton, payload_at]

/-! ## What a device owes; the levels -/

/-- The transfers in program order: stripe, round. -/
abbrev order : List (Fin 3 × Fin 3) := [(0, 0), (1, 0), (2, 0), (0, 1), (1, 1), (2, 1), (0, 2), (1, 2), (2, 2)]

/-- What a device that still has the transfers `l` to make owes: each one's arrival at the partner. -/
def dues (c : Dev nD) : List (Fin 3 × Fin 3) → CellTallies nD τ sig Unit
  | [] => 0
  | p :: l => dues c l + tallyAt (recvCell (peer (p.1 + p.2) c) p.1 p.2) () (amt p.1 p.2)

/-- At launch also a unit to each partner's barrier, summed so that the signals peel them in order. -/
def O₁ (c : Dev nD) : CellTallies nD τ sig Unit := dues c order + tallyAt (barCell (peer 2 c)) () 1
def O₂ (c : Dev nD) : CellTallies nD τ sig Unit := O₁ c + tallyAt (barCell (peer 1 c)) () 1
def O₀ (c : Dev nD) : CellTallies nD τ sig Unit := O₂ c + tallyAt (barCell (peer 0 c)) () 1

def L (g : GSem nD τ sig) : Finset Unit := if g.1.2 = .tc then {()} else ∅
/-- The barrier at 1, the receive cells of round `r` at `2 + r`, everything else at 0. -/
def lvx : Option Cx → ℕ
  | some none => 1
  | some (some (true, _, r)) => 2 + r.val
  | _ => 0
def lv (g : GSem nD τ sig) (_ : Unit) : ℕ := lvx (cellIx g.2)

theorem L_of_ne (g : GSem nD τ sig) (h : g.1.2 ≠ .tc) : L g = ∅ := if_neg h
theorem L_tc (c : Dev nD) (sm : SemLoc sig) : L ((c : Thread nD τ), sm) = {()} := if_pos rfl
theorem lv_at (c : Dev nD) (k : Cx) (u : Unit) : lv (kcell (c, k)) u = lvx (some k) := by
  show lvx (cellIx (csem k)) = _
  rw [cellIx_csem]

theorem tally_pos {g g' : GSem nD τ sig} {u : Unit} {n : ℕ} (h : 0 < tallyAt g' () n g u) : g = g' := by
  rw [tallyAt_apply] at h
  by_contra hn
  rw [if_neg fun h' => hn h'.1] at h
  exact Nat.lt_irrefl 0 h

theorem add_pos_cases {A B : CellTallies nD τ sig Unit} {g : GSem nD τ sig} {u : Unit} (h : 0 < (A + B) g u) : 0 < A g u ∨ 0 < B g u := by
  rw [Pi.add_apply, Finsupp.add_apply] at h; omega

theorem dues_pos (c : Dev nD) : ∀ (l : List (Fin 3 × Fin 3)) {g : GSem nD τ sig} {u : Unit}, 0 < dues c l g u →
    ∃ p ∈ l, g = recvCell (peer (p.1 + p.2) c) p.1 p.2
  | [], g, u, h => absurd h (Nat.lt_irrefl 0)
  | p :: l, g, u, h => by
    rcases add_pos_cases h with h | h
    · obtain ⟨p', hp, e⟩ := dues_pos c l h
      exact ⟨p', List.mem_cons_of_mem _ hp, e⟩
    · exact ⟨p, List.mem_cons_self, tally_pos h⟩

theorem O₀_pos {c : Dev nD} {g : GSem nD τ sig} {u : Unit} (h : 0 < O₀ c g u) :
    ∃ (c' : Dev nD) (k : Cx), g = kcell (c', k) ∧ 0 < lvx (some k) := by
  unfold O₀ O₂ O₁ at h
  rcases add_pos_cases h with h | h
  · rcases add_pos_cases h with h | h
    · rcases add_pos_cases h with h | h
      · obtain ⟨p, -, e⟩ := dues_pos c _ h
        exact ⟨_, _, e, by show 0 < 2 + p.2.val; omega⟩
      · exact ⟨_, _, tally_pos h, Nat.one_pos⟩
    · exact ⟨_, _, tally_pos h, Nat.one_pos⟩
  · exact ⟨_, _, tally_pos h, Nat.one_pos⟩

omit [FloatOps F] in
/-- A cell of level `n` may be waited on by a device that owes only cells of a higher level. -/
theorem mayWait_cut (c : Dev nD) (sm : SemLoc sig) (n : ℕ) (hn : lv ((c : Thread nD τ), sm) () ≤ n) (O : CellTallies nD τ sig Unit)
    (hO : ∀ g u, 0 < O g u → ∃ (c' : Dev nD) (k : Cx), g = kcell (c', k) ∧ n < lvx (some k)) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by obtain ⟨c', k, rfl, -⟩ := hO g u hg; exact Finset.mem_singleton_self _)
    (fun p hp => by rw [Finset.mem_singleton.mp hp]; exact hn)
    (fun g u hg => by obtain ⟨c', k, rfl, h⟩ := hO g u hg; rw [lv_at]; exact h)

omit [FloatOps F] in
/-- A device whose remaining transfers are all of later rounds may wait on a send or receive cell of round `r`, -/
theorem mayWait_own (c : Dev nD) (b : Bool) (s r : Fin 3) (l : List (Fin 3 × Fin 3)) (hl : ∀ p ∈ l, r < p.2) :
    (levAts L lv : sProp 𝕄) ⊢ MayWait (c : Thread nD τ) (osem (b, s, r)) () (dues c l) :=
  mayWait_cut c _ (2 + r.val) (by rw [show ((c : Thread nD τ), osem (b, s, r)) = kcell (c, some (b, s, r)) from rfl, lv_at]; cases b <;> simp [lvx]) _ fun g u hg => by
    obtain ⟨p, hp, e⟩ := dues_pos c l hg
    exact ⟨_, _, e, Nat.add_lt_add_left (hl p hp) 2⟩

omit [FloatOps F] in
/-- and one that has signalled its partners on its barrier. -/
theorem mayWait_bar (c : Dev nD) (l : List (Fin 3 × Fin 3)) : (levAts L lv : sProp 𝕄) ⊢ MayWait (c : Thread nD τ) (.reg barS) () (dues c l) :=
  mayWait_cut c _ 1 (by rw [show ((c : Thread nD τ), SemLoc.reg barS) = kcell (c, none) from rfl, lv_at]; exact le_rfl) _ fun g u hg => by
    obtain ⟨p, hp, e⟩ := dues_pos c l hg
    exact ⟨_, _, e, by show 1 < 2 + p.2.val; omega⟩

omit [FloatOps F] in
/-- The staging cells may be waited on before and after the body. -/
theorem mayWait_stage (c : Dev nD) (sm : SemLoc sig) (hq : lvx (cellIx sm) = 0) (O : CellTallies nD τ sig Unit) (hO : O = O₀ c ∨ O = 0) :
    (levAts L lv : sProp 𝕄) ⊢ MayWait (c : Thread nD τ) sm () O := by
  rcases hO with rfl | rfl
  · exact mayWait_cut c sm 0 hq.le _ fun g u hg => O₀_pos hg
  · rw [MayWait_zero]; iintro -; iempintro

/-! ## What stays known: every cell's invariant, and that its round is reached -/

def records (K : Dev nD × Cx → ℕ) : sProp 𝕄 :=
  iprop((bigSep Finset.univ fun ck : Dev nD × Cx => cellInv ER (sched m) (K ck) (kcell ck))
    ∗ bigSep Finset.univ fun ck : Dev nD × Cx => reached ER (kcell ck) 0)

instance records_persistent (K : Dev nD × Cx → ℕ) : BI.Persistent (records (F := F) m K) := by unfold records; infer_instance

theorem records_inv (K : Dev nD × Cx → ℕ) (ck : Dev nD × Cx) : records (F := F) m K ⊢ cellInv ER (sched m) (K ck) (kcell ck) := by
  unfold records
  iintro ⟨#H, -⟩
  iapply (show (bigSep Finset.univ fun ck : Dev nD × Cx => (cellInv ER (sched m) (K ck) (kcell ck) : sProp 𝕄)) ⊢ cellInv ER (sched m) (K ck) (kcell ck) from
    bigSep_elim (Finset.mem_univ ck)); iexact H
theorem records_reached (K : Dev nD × Cx → ℕ) (ck : Dev nD × Cx) : records (F := F) m K ⊢ reached ER (kcell ck) 0 := by
  unfold records
  iintro ⟨-, #H⟩
  iapply (show (bigSep Finset.univ fun ck : Dev nD × Cx => (reached ER (kcell ck) 0 : sProp 𝕄)) ⊢ reached ER (kcell ck) 0 from
    bigSep_elim (Finset.mem_univ ck)); iexact H

/-! ## One exchange, from a device's side -/

/-- Before: its positions at the two cells, the tokens of the two payments the transfer makes, the right to its own receive
    cell's credit, its send slot. -/
def ready (c : Dev nD) (s r : Fin 3) : sProp 𝕄 :=
  iprop(atPos ER (sendCell c s r) 0 ∅ 0 ∗ atPos ER (recvCell c s r) 0 ∅ 0
    ∗ dutyTok ER (sendCell c s r) 0 0 ∗ dutyTok ER (recvCell (peer (s + r) c) s r) 0 0
    ∗ cred (tallyAt (recvCell c s r) () (amt s r)) ∗ slotAny c (sslot s r))
/-- Its transfer sent. -/
def flight (c : Dev nD) (s r : Fin 3) : sProp 𝕄 :=
  iprop(atPos ER (sendCell c s r) 0 ∅ 0 ∗ atPos ER (recvCell c s r) 0 ∅ 0
    ∗ cred (tallyAt (sendCell c s r) () (amt s r)) ∗ cred (tallyAt (recvCell c s r) () (amt s r)))
/-- Both transfers done, the cells closed. -/
def done (c : Dev nD) (s r : Fin 3) : sProp 𝕄 :=
  iprop(slotAny c (sslot s r) ∗ slotAny c (rslot s r) ∗ semVal (sendCell c s r) 0 ∗ semVal (recvCell c s r) 0)

end Cert.Butterfly

end
-- ==== Proof.Steps.lean ====
/-
# One exchange, step by step

The three stretches of program the butterfly is made of, each proved once at a symbolic device, stripe and
round: the handshake on the barrier (`handshake`), sending a slot (`launch`), and waiting for both transfers of an
exchange and reading what arrived (`collect`). Also: a buffer is its three slots.
-/
module

public import proofs.«01_k».proof.Proof.Protocol
public import Idealize.ShloMosaic.Lib.Pipeline.Value

@[expose] public section

noncomputable section

namespace Cert.Butterfly

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## A buffer is its three slots -/

omit [FloatOps F] in
theorem slot_hold (c : Dev nD) {s : Fin 3} (M : Memref sig .tc .vmem (Buf3 s) .bf16) (r : Fin 3) (f : Buf (Elt F) (M.view.loc (c : Thread nD τ))) :
    (M.view.loc (c : Thread nD τ) ↦[slotSet M r]{fullShare} f : sProp 𝕄) ⊢ slotAny c (slotOf M r) := by
  unfold slotAny
  iintro H
  iexists f; iexact H

omit [FloatOps F] in
theorem buf_split (c : Dev nD) {s : Fin 3} (M : Memref sig .tc .vmem (Buf3 s) .bf16) (hM : M.view.set = Finset.univ) :
    (iprop(∃ f : Buf (Elt F) (M.view.loc (c : Thread nD τ)), M.view.loc (c : Thread nD τ) ↦{fullShare} f) : sProp 𝕄)
      ⊢ bigSep Finset.univ fun r : Fin 3 => slotAny c (slotOf M r) := by
  iintro ⟨%f, H⟩
  iapply (show (M.view.loc (c : Thread nD τ) ↦{fullShare} f : sProp 𝕄) ⊢ bigSep Finset.univ fun r : Fin 3 => slotAny c (slotOf M r) from by
    rw [← slots_cover M hM, pointsTo_biUnion _ _ fun r _ r' _ h => slots_disjoint M h]
    exact bigSep_mono fun r _ => slot_hold c M r f)
  iexact H

omit [FloatOps F] in
theorem buf_join (c : Dev nD) {s : Fin 3} (M : Memref sig .tc .vmem (Buf3 s) .bf16) (hM : M.view.set = Finset.univ) :
    (bigSep Finset.univ fun r : Fin 3 => slotAny c (slotOf M r))
      ⊢ (iprop(∃ f : Buf (Elt F) (M.view.loc (c : Thread nD τ)), M.view.loc (c : Thread nD τ) ↦{fullShare} f) : sProp 𝕄) := by
  rw [bigSep_fin3]
  unfold slotAny
  iintro ⟨⟨%f0, H0⟩, ⟨%f1, H1⟩, ⟨%f2, H2⟩⟩
  let fs : Fin 3 → Buf (Elt F) (M.view.loc (c : Thread nD τ)) := fun | 0 => f0 | 1 => f1 | 2 => f2
  ihave H := (pointsTo_biUnion_join (Val := Elt F) (Ix := Unit) (Name := ℕ) (U := UU) (Lvl := ℕ) (q := fullShare) Finset.univ (fun r => slotSet M r) fs f0
      fun r _ r' _ h => slots_disjoint M h) $$ [H0 H1 H2]
  · rw [bigSep_fin3]
    isplitl [H0]; · iexact H0
    isplitl [H1]; · iexact H1
    iexact H2
  icases H with ⟨%g, -, H⟩
  iexists g
  rw [slots_cover M hM]
  iexact H

/-! ## Slots by stripe and round, and by partner -/

/-- Stripe and partner against stripe and round. -/
def byPeer : Fin 3 × Fin 3 ≃ Fin 3 × Fin 3 where
  toFun p := (p.2, p.1 - p.2)
  invFun p := (p.1 + p.2, p.1)
  left_inv := by decide
  right_inv := by decide

theorem stripe_peer : ∀ s k : Fin 3, s + (k - s) = k := by decide

omit [FloatOps F] in
theorem regroup_slots (Φ : Fin 3 → Fin 3 → sProp 𝕄) :
    (bigSep Finset.univ fun s : Fin 3 => bigSep Finset.univ fun r : Fin 3 => Φ s r)
      = bigSep Finset.univ fun k : Fin 3 => bigSep Finset.univ fun s : Fin 3 => Φ s (k - s) := by
  rw [← bigSep_univ_prod (fun p : Fin 3 × Fin 3 => Φ p.1 p.2), bigSep_univ_equiv byPeer, bigSep_univ_prod]; rfl

/-! ## The program's names for the cells -/

theorem sem_inb (s r : Fin 3) : ∀ a, (![s.val, r.val] : Fin 2 → ℕ) a + S1x1.size a ≤ S3x3.size a := by
  have := s.isLt; have := r.isLt
  intro a; fin_cases a
  · show s.val + 1 ≤ 3; omega
  · show r.val + 1 ≤ 3; omega
/-- The send and the receive semaphore of stripe `s`, round `r`, as the program cuts them from their arrays. -/
abbrev ssem (s r : Fin 3) : DmaSem sig :=
  ((cc0_scratch6.slice (Rect.unit (s := S3x3) ![s.val, r.val] S1x1.size (sem_inb s r))).squeeze S_ squeezes_S1x1_S_).sem
abbrev rsem (s r : Fin 3) : DmaSem sig :=
  ((cc0_scratch7.slice (Rect.unit (s := S3x3) ![s.val, r.val] S1x1.size (sem_inb s r))).squeeze S_ squeezes_S1x1_S_).sem
theorem ssem_eq : ∀ s r : Fin 3, ssem s r = sendS s r := by decide +kernel
theorem rsem_eq : ∀ s r : Fin 3, rsem s r = recvS s r := by decide +kernel

/-! ## Contents -/

omit [FloatOps F] in
theorem slot_read {s : Fin 3} (M : Memref sig .tc .vmem (Buf3 s) .bf16) (r : Fin 3) (f : M.view.ty.Contents (Elt F)) :
    (slotOf M r).view.read (Elt F) f = shapeCast (Mat s) ((M.access (rct s r)).read (Elt F) f) (slab_casts s) := rfl

omit [FloatOps F] in
theorem slot_written {s : Fin 3} (M : Memref sig .tc .vmem (Buf3 s) .bf16) (r : Fin 3) (f : M.view.ty.Contents (Elt F))
    (X : FVec F (Slab s) .bf16) :
    (slotOf M r).view.read (Elt F) ((M.access (rct s r)).write (Elt F) f X Finset.univ) = shapeCast (Mat s) X (slab_casts s) := by
  rw [slot_read, View.read_write_univ]

omit [FloatOps F] in
theorem slot_loaded {s : Fin 3} (M : Memref sig .tc .vmem (Buf3 s) .bf16) (r : Fin 3) (f : M.view.ty.Contents (Elt F)) (Y : FVec F (Mat s) .bf16)
    (h : (slotOf M r).view.read (Elt F) f = Y) : M.view.readAt (Elt F) (rct s r).toLoadRect f = shapeCast (Slab s) Y (mat_casts s) := by
  rw [← h, slot_read, shapeCast_shapeCast]; rfl

/-! ## Sending -/

/-- What a device owes, whatever its waits so far. -/
def owing (c : Dev nD) (O : CellTallies nD τ sig Unit) : sProp 𝕄 := iprop(∃ W, owes (c : Thread nD τ) O W)

variable (K : Dev nD × Cx → ℕ)

abbrev 𝒱₀ : Variants := Variants.none

theorem send_slot (c n : Dev nD) (s r : Fin 3) (hn : n = peer (s + r) c) (sS rS : DmaSem sig) (hS : sS = sendS s r) (hR : rS = recvS s r)
    (fs : Buf (Elt F) ((sslot s r).view.loc (c : Thread nD τ))) (hfs : (sslot s r).view.read (Elt F) fs = sent m s r c)
    (O : CellTallies nD τ sig Unit)
    {hsc : (rslot s r : Memref sig (Dev.tc n : Thread nD τ).2.kind .vmem (Mat s) .bf16).view.ref.isScScratch = false}
    {hsrc : (sslot s r).view.WordExact} {hdst : (rslot s r).view.WordExact}
    {hsem : DmaTarget.Typed .vmem (.dma rS) (.remote (Dev.tc n : Thread nD τ) (rslot s r) (.dma sS) hsc)}
    {α : Type} {Q : α → sProp 𝕄} {k : PUnit → Prog (TpuEff nD τ sig (Elt F) Λ₀ .tc) α} :
    iprop(records m K ∗ ((sslot s r).view.loc (c : Thread nD τ) ↦[(sslot s r).view.set]{fullShare} fs) ∗ slotAny (peer (s + r) c) (rslot s r)
        ∗ owing c (O + tallyAt (recvCell (peer (s + r) c) s r) () (amt s r))
        ∗ dutyTok ER (sendCell c s r) 0 0 ∗ dutyTok ER (recvCell (peer (s + r) c) s r) 0 0)
      ⊢ iprop(((cred (tallyAt (sendCell c s r) () (amt s r)) ∗ owing c O)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sslot s r) (.remote (Dev.tc n : Thread nD τ) (rslot s r) (.dma sS) hsc) (.dma rS) hsrc hdst hsem) k) Q) := by
  subst hn hS hR
  unfold slotAny owing
  iintro ⟨#HR, Hs, ⟨%fd, Hd⟩, ⟨%W, HO⟩, Ht1, Ht2⟩ Hk
  iapply (Rounds.wp_send_pointsTo 𝒱₀ ER (sched m) (c : Thread nD τ) none (c' := Dev.tc (peer (s + r) c)) (src := sslot s r) (dst := rslot s r)
    (κ₁ := K (c, some (false, s, r))) (κ₂ := K (peer (s + r) c, some (true, s, r)))
    (r₁ := 0) (r₂ := 0) (d₁ := 0) (d₂ := 0) (fs := fs) (fd := fd)
    (by rw [duties_at]; exact Finset.mem_singleton_self _) (by rw [duties_at]; exact Finset.mem_singleton_self _)
    () () (amt s r) rfl (amount_at m c (some (false, s, r)) 0) (amount_at m (peer (s + r) c) (some (true, s, r)) 0) O rfl (W := W)
    (by
      rw [payload_at]
      show _ ⊢ slotIs c (sslot s r) (sent m s r c)
      unfold slotIs
      iintro H
      iexists fs
      isplitr; · ipureintro; exact hfs
      iexact H)
    (by
      rw [payload_at]
      show _ ⊢ slotIs (peer (s + r) c) (rslot s r) (landed m s r (peer (s + r) c))
      unfold slotIs
      iintro H
      iexists ((rslot s r).view.write (Elt F) fd ((sslot s r).view.read (Elt F) fs) Finset.univ)
      isplitr
      · ipureintro; exact ((rslot s r).view.read_write_univ _ _).trans (hfs.trans (landed_peer m s r c).symm)
      iexact H)) $$ [Hs Hd HO Ht1 Ht2]
  · isplitr; · iapply (records_inv m K (c, some (false, s, r))); iexact HR
    isplitr; · iapply (records_inv m K (peer (s + r) c, some (true, s, r))); iexact HR
    isplitl [Hs]; · iexact Hs
    isplitl [Hd]; · iexact Hd
    isplitl [HO]; · iexact HO
    isplitl [Ht1]; · iexact Ht1
    isplitr; · iapply (records_reached m K (c, some (false, s, r))); iexact HR
    isplitl [Ht2]; · iexact Ht2
    iapply (records_reached m K (peer (s + r) c, some (true, s, r))); iexact HR
  iintro ⟨Hc, HO⟩
  iapply Hk
  isplitl [Hc]; · iexact Hc
  iexists W; iexact HO

/-- Filling a send slot and sending it. -/
theorem launch (c n : Dev nD) (s r : Fin 3) (hn : n = peer (s + r) c) (X : FVec F (Slab s) .bf16)
    (hX : shapeCast (Mat s) X (slab_casts s) = sent m s r c) (l : List (Fin 3 × Fin 3))
    {hl : (sbuf s).view.LoadsAt (rct s r).toLoadRect} {hx : ((sbuf s).access (rct s r)).Stores Finset.univ}
    {hm : (Finset.univ : Finset (rct s r).shape.Idx) = Finset.univ ∨ ∀ a, (rct s r).stride a = 1}
    {hsc : (rslot s r : Memref sig (Dev.tc n : Thread nD τ).2.kind .vmem (Mat s) .bf16).view.ref.isScScratch = false}
    {hsrc : (sslot s r).view.WordExact} {hdst : (rslot s r).view.WordExact}
    {hsem : DmaTarget.Typed .vmem (.dma (rsem s r)) (.remote (Dev.tc n : Thread nD τ) (rslot s r) (.dma (ssem s r)) hsc)}
    {α : Type} {Q : α → sProp 𝕄} {k : PUnit → Prog (TpuEff nD τ sig (Elt F) Λ₀ .tc) α} :
    iprop(records m K ∗ ready c s r ∗ slotAny (peer (s + r) c) (rslot s r) ∗ owing c (dues c ((s, r) :: l)))
      ⊢ iprop(((flight c s r ∗ owing c (dues c l)) -∗ wp frame (wpE (defs₀ (F := F)) 𝒱₀ (c : Thread nD τ) none) Set.univ (k ⟨⟩) Q)
          -∗ wp frame (wpE (defs₀ (F := F)) 𝒱₀ (c : Thread nD τ) none) Set.univ
              (.op (.load (sbuf s) (rct s r).toLoadRect hl) fun _ => .op (.store (sbuf s) (rct s r) X Finset.univ hx hm) fun _ =>
                .op (.enqueueDma (sslot s r) (.remote (Dev.tc n : Thread nD τ) (rslot s r) (.dma (ssem s r)) hsc) (.dma (rsem s r)) hsrc hdst hsem) k) Q) := by
  unfold ready flight
  iintro ⟨#HR, ⟨Ha1, Ha2, Ht1, Ht2, Hc2, Hs⟩, Hd, HO⟩ Hk
  unfold slotAny
  icases Hs with ⟨%f, Hs⟩
  iapply (wp_load 𝒱₀ (c : Thread nD τ) none Set.univ (m := sbuf s) (show (sbuf s).view.setOn (rct s r).toLoadRect.set ⊆ (sslot s r).view.set from by
    rw [slot_set]; exact subset_rfl)) $$ Hs; iintro Hs
  iapply (wp_store 𝒱₀ (c : Thread nD τ) none Set.univ (m := sbuf s) (r := rct s r) (Mk := Finset.univ)
    (show ((sbuf s).access (rct s r)).setOn Finset.univ ⊆ (sslot s r).view.set from (access_set (sbuf s) r).subset)) $$ Hs; iintro Hs
  iapply (send_slot m K c n s r hn (ssem s r) (rsem s r) (ssem_eq s r) (rsem_eq s r) _ ((slot_written (sbuf s) r f X).trans hX) (dues c l)) $$ [Hs Hd HO Ht1 Ht2]
  · isplitr; · iexact HR
    isplitl [Hs]; · iexact Hs
    isplitl [Hd]; · unfold slotAny; iexact Hd
    isplitl [HO]; · iexact HO
    isplitl [Ht1]; · iexact Ht1
    iexact Ht2
  iintro ⟨Hc1, HO⟩
  iapply Hk
  isplitr [HO]
  · isplitl [Ha1]; · iexact Ha1
    isplitl [Ha2]; · iexact Ha2
    isplitl [Hc1]; · iexact Hc1
    iexact Hc2
  iexact HO

/-! ## Waiting -/

/-- A wait on one of a device's own cells: the cell's payload back, the cell closed. -/
theorem wait_own (c : Dev nD) (b : Bool) (s r : Fin 3) (l : List (Fin 3 × Fin 3)) (hl : ∀ p ∈ l, r < p.2)
    (q : DmaSem sig) (hq : SemLoc.dma q = osem (b, s, r))
    {a d : Memref sig .tc .vmem (Mat s) .bf16} (hd : d.view.dmaCredit = amt s r) {ha : a.view.WordExact} {hdw : d.view.WordExact}
    {α : Type} {Q : α → sProp 𝕄} {k : PUnit → Prog (TpuEff nD τ sig (Elt F) Λ₀ .tc) α} :
    iprop(records m K ∗ levAts L lv ∗ cred (tallyAt (kcell (c, some (b, s, r))) () (amt s r)) ∗ owing c (dues c l) ∗ atPos ER (kcell (c, some (b, s, r))) 0 ∅ 0)
      ⊢ iprop(((owing c (dues c l) ∗ semVal (kcell (c, some (b, s, r))) 0 ∗ pay m c 0 (some (some (b, s, r))))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q a d ha hdw) k) Q) := by
  unfold owing
  iintro ⟨#HR, #Hlev, Hc, ⟨%W, HO⟩, Hat⟩ Hk
  iapply (Rounds.wp_wait_rest_token 𝒱₀ ER (sched m) (c : Thread nD τ) none (κ := K (c, some (b, s, r))) (sm := osem (b, s, r))
      (fun K' => (wpE_waitDma2_eq 𝒱₀ (c : Thread nD τ) none Set.univ K').trans (by rw [hq, hd])) (Set.mem_univ _) () (O := dues c l) (W := W) (R := 0) (m := 0) (T := ∅)
      (by rw [Nat.zero_add]; exact (expect_own m c b s r).symm)) $$ [Hc HO Hat]
  · isplitr; · iapply (records_inv m K (c, some (b, s, r))); iexact HR
    isplitl [Hc]; · iexact Hc
    isplitl [HO]; · iexact HO
    isplitr; · iapply (mayWait_own (F := F) c b s r l hl); iexact Hlev
    iexact Hat
  iintro ⟨HO, Hat, -, Hpay⟩
  ihave Hp := (show bigSep ((sched (F := F) m).duties ((c : Thread nD τ), osem (b, s, r)) 0 \ ∅) (fun d => (sched (F := F) m).payload ((c : Thread nD τ), osem (b, s, r)) 0 d)
      ⊢ pay m c 0 (some (some (b, s, r))) from Entails.of_eq (rest_own m c (b, s, r))) $$ Hpay
  imod (Rounds.cell_close ER (sched m) (Set.mem_univ (K (c, some (b, s, r)))) (fun h => h) (R := 0 + 1) (duties_later m (kcell (c, some (b, s, r))))) $$ [Hat] with Hz
  · isplitr; · iapply (records_inv m K (c, some (b, s, r))); iexact HR
    iexact Hat
  iapply Hk
  isplitl [HO]; · iexists _; iexact HO
  isplitl [Hz]; · iexact Hz
  iexact Hp

/-- Waiting for both transfers of an exchange, and reading what arrived. -/
theorem collect (c : Dev nD) (s r : Fin 3) (l : List (Fin 3 × Fin 3)) (hl : ∀ p ∈ l, r < p.2)
    {h1 : (rslot s r).view.WordExact} {h2 : (sslot s r).view.WordExact} {h3 : (sslot s r).view.WordExact} {h4 : (rslot s r).view.WordExact}
    {h5 : (rbuf s).view.LoadsAt (rct s r).toLoadRect}
    {α : Type} {Q : α → sProp 𝕄} {k : ((rct s r).shape.Idx → Elt F .bf16) → Prog (TpuEff nD τ sig (Elt F) Λ₀ .tc) α} :
    iprop(records m K ∗ levAts L lv ∗ flight c s r ∗ owing c (dues c l))
      ⊢ iprop(((done c s r ∗ owing c (dues c l))
            -∗ wp frame (wpE (defs₀ (F := F)) 𝒱₀ (c : Thread nD τ) none) Set.univ (k (shapeCast (Slab s) (landed m s r c) (mat_casts s))) Q)
          -∗ wp frame (wpE (defs₀ (F := F)) 𝒱₀ (c : Thread nD τ) none) Set.univ
            (.op (.waitDma2 (ssem s r) (rslot s r) (sslot s r) h1 h2) fun _ => .op (.waitDma2 (rsem s r) (sslot s r) (rslot s r) h3 h4) fun _ =>
              .op (.load (rbuf s) (rct s r).toLoadRect h5) k) Q) := by
  unfold flight done
  iintro ⟨#HR, #Hlev, ⟨Ha1, Ha2, Hc1, Hc2⟩, HO⟩ Hk
  iapply (wait_own m K c false s r l hl (ssem s r) (congrArg SemLoc.dma (ssem_eq s r)) (sslot_credit s r)) $$ [Ha1 Hc1 HO]
  · isplitr; · iexact HR
    isplitr; · iexact Hlev
    isplitl [Hc1]; · iexact Hc1
    isplitl [HO]; · iexact HO
    iexact Ha1
  iintro ⟨HO, Hz1, Hp1⟩
  iapply (wait_own m K c true s r l hl (rsem s r) (congrArg SemLoc.dma (rsem_eq s r)) rfl) $$ [Ha2 Hc2 HO]
  · isplitr; · iexact HR
    isplitr; · iexact Hlev
    isplitl [Hc2]; · iexact Hc2
    isplitl [HO]; · iexact HO
    iexact Ha2
  iintro ⟨HO, Hz2, Hp2⟩
  ihave Hs := (show pay m c 0 (some (some (false, s, r))) ⊢ slotAny c (sslot s r) from slotIs_any c (sslot s r) (sent m s r c)) $$ Hp1
  ihave Hr := (show pay m c 0 (some (some (true, s, r))) ⊢ slotIs c (rslot s r) (landed m s r c) from BI.Entails.refl _) $$ Hp2
  unfold slotIs
  icases Hr with ⟨%f, %hf, Hr⟩
  iapply (wp_load 𝒱₀ (c : Thread nD τ) none Set.univ (m := rbuf s) (show (rbuf s).view.setOn (rct s r).toLoadRect.set ⊆ (rslot s r).view.set from by
    rw [slot_set]; exact subset_rfl)) $$ Hr; iintro Hr
  rw [slot_loaded (rbuf s) r f (landed m s r c) hf]
  iapply Hk
  isplitr [HO]
  · isplitl [Hs]; · iexact Hs
    isplitl [Hr]; · unfold slotAny; iexists f; iexact Hr
    isplitl [Hz1]; · iexact Hz1
    iexact Hz2
  iexact HO

/-! ## The handshake -/

/-- What a device holds for the handshake: its position at its barrier, its right to the barrier's three units, a token for each
    partner's barrier, and its receive slots. -/
def greet (c : Dev nD) : sProp 𝕄 :=
  iprop(atPos ER (barCell c) 0 ∅ 0 ∗ cred (tallyAt (barCell c) () 3)
    ∗ (bigSep Finset.univ fun k : Fin 3 => dutyTok ER (barCell (peer k c)) 0 k)
    ∗ bigSep Finset.univ fun s : Fin 3 => bigSep Finset.univ fun r : Fin 3 => slotAny c (rslot s r))

omit [FloatOps F] in
theorem barPay_peer (k : Fin 3) (c : Dev nD) : (barPay k (peer k c) : sProp 𝕄) = bigSep Finset.univ fun s : Fin 3 => slotAny c (rslot s (k - s)) := by
  unfold barPay; rw [peer_peer]

/-- A signal to partner `k`: the receive slots it will write. -/
theorem signal (c n : Dev nD) (k : Fin 3) (hn : n = peer k c) (O : CellTallies nD τ sig Unit)
    {α : Type} {Q : α → sProp 𝕄} {j : PUnit → Prog (TpuEff nD τ sig (Elt F) Λ₀ .tc) α} :
    iprop(records m K ∗ owing c (O + tallyAt (barCell (peer k c)) () 1) ∗ dutyTok ER (barCell (peer k c)) 0 k
        ∗ bigSep Finset.univ fun s : Fin 3 => slotAny c (rslot s (k - s)))
      ⊢ iprop((owing c O -∗ wp frame (wpE (defs₀ (F := F)) 𝒱₀ (c : Thread nD τ) none) Set.univ (j ⟨⟩) Q)
          -∗ wp frame (wpE (defs₀ (F := F)) 𝒱₀ (c : Thread nD τ) none) Set.univ (.op (.semSignal (n : Thread nD τ) barS (1#32).toNat) j) Q) := by
  subst hn
  unfold owing
  iintro ⟨#HR, ⟨%W, HO⟩, Ht, Hs⟩ Hk
  iapply (Rounds.wp_signal 𝒱₀ ER (sched m) (c : Thread nD τ) none (dst := (peer k c : Thread nD τ)) (κ := K (peer k c, none)) (d := k)
      (by rw [show ((peer k c : Thread nD τ), SemLoc.reg barS) = kcell (peer k c, none) from rfl, duties_at]; exact Finset.mem_univ _)
      ((amount_at m (peer k c) none k).trans (by decide)) () O rfl (W := W)) $$ [HO Ht Hs]
  · isplitr; · iapply (records_inv m K (peer k c, none)); iexact HR
    isplitl [HO]; · iexact HO
    isplitl [Ht]; · iexact Ht
    isplitl [Hs]
    · rw [show ((peer k c : Thread nD τ), SemLoc.reg barS) = kcell (peer k c, none) from rfl, payload_at]
      iapply (show (bigSep Finset.univ fun s : Fin 3 => slotAny c (rslot s (k - s)) : sProp 𝕄) ⊢ pay m (peer k c) k (some none) from
        Entails.of_eq (barPay_peer k c).symm)
      iexact Hs
    · iapply (records_reached m K (peer k c, none)); iexact HR
  iintro HO
  iapply Hk
  iexists W; iexact HO

/-- The handshake: each partner signalled, the three signals waited for; the partners' receive slots come with them. -/
theorem handshake (c n0 n1 n2 : Dev nD) (h0 : n0 = peer 0 c) (h1 : n1 = peer 1 c) (h2 : n2 = peer 2 c)
    {α : Type} {Q : α → sProp 𝕄} {j : PUnit → Prog (TpuEff nD τ sig (Elt F) Λ₀ .tc) α} :
    iprop(records m K ∗ levAts L lv ∗ greet c ∗ owing c (O₀ c))
      ⊢ iprop(((semVal (barCell c) 0 ∗ (bigSep Finset.univ fun s : Fin 3 => bigSep Finset.univ fun r : Fin 3 => slotAny (peer (s + r) c) (rslot s r))
              ∗ owing c (dues c order)) -∗ wp frame (wpE (defs₀ (F := F)) 𝒱₀ (c : Thread nD τ) none) Set.univ (j ⟨⟩) Q)
          -∗ wp frame (wpE (defs₀ (F := F)) 𝒱₀ (c : Thread nD τ) none) Set.univ
            (.op (.semSignal (n0 : Thread nD τ) barS (1#32).toNat) fun _ => .op (.semSignal (n1 : Thread nD τ) barS (1#32).toNat) fun _ =>
              .op (.semSignal (n2 : Thread nD τ) barS (1#32).toNat) fun _ => .op (.semWait barS (3#32).toNat) j) Q) := by
  unfold greet
  rw [regroup_slots (fun s r => slotAny c (rslot s r)), bigSep_fin3, bigSep_fin3]
  iintro ⟨#HR, #Hlev, ⟨Hat, Hc, ⟨Ht0, Ht1, Ht2⟩, Hs0, Hs1, Hs2⟩, HO⟩ Hk
  iapply (signal m K c n0 0 h0 (O₂ c)) $$ [HO Ht0 Hs0]
  · isplitr; · iexact HR
    isplitl [HO]; · iexact HO
    isplitl [Ht0]; · iexact Ht0
    iexact Hs0
  iintro HO
  iapply (signal m K c n1 1 h1 (O₁ c)) $$ [HO Ht1 Hs1]
  · isplitr; · iexact HR
    isplitl [HO]; · iexact HO
    isplitl [Ht1]; · iexact Ht1
    iexact Hs1
  iintro HO
  iapply (signal m K c n2 2 h2 (dues c order)) $$ [HO Ht2 Hs2]
  · isplitr; · iexact HR
    isplitl [HO]; · iexact HO
    isplitl [Ht2]; · iexact Ht2
    iexact Hs2
  iintro HO
  unfold owing
  icases HO with ⟨%W, HO⟩
  iapply (Rounds.wp_wait_rest_token 𝒱₀ ER (sched m) (c : Thread nD τ) none (κ := K (c, none))
      (wpE_semWait_eq 𝒱₀ (c : Thread nD τ) none Set.univ) (Set.mem_univ _) () (O := dues c order) (W := W) (R := 0) (m := 0) (T := ∅)
      (show 0 + (3#32).toNat = (sched m).expect (barCell c) 0 from by rw [expect_bar]; decide)) $$ [Hc HO Hat]
  · isplitr; · iapply (records_inv m K (c, none)); iexact HR
    isplitl [Hc]; · iexact Hc
    isplitl [HO]; · iexact HO
    isplitr; · iapply (mayWait_bar (F := F) c order); iexact Hlev
    iexact Hat
  iintro ⟨HO, Hat, -, Hpay⟩
  ihave Hp := (show bigSep ((sched (F := F) m).duties ((c : Thread nD τ), SemLoc.reg barS) 0 \ ∅) (fun d => (sched (F := F) m).payload ((c : Thread nD τ), SemLoc.reg barS) 0 d)
      ⊢ iprop(barPay 0 c ∗ barPay 1 c ∗ barPay 2 c) from Entails.of_eq (rest_bar m c)) $$ Hpay
  imod (Rounds.cell_close ER (sched m) (Set.mem_univ (K (c, none))) (fun h => h) (R := 0 + 1) (duties_later m (barCell c))) $$ [Hat] with Hz
  · isplitr; · iapply (records_inv m K (c, none)); iexact HR
    iexact Hat
  iapply Hk
  isplitl [Hz]; · iexact Hz
  isplitl [Hp]
  · iapply (show iprop(barPay 0 c ∗ barPay 1 c ∗ barPay 2 c)
        ⊢ (bigSep Finset.univ fun s : Fin 3 => bigSep Finset.univ fun r : Fin 3 => slotAny (peer (s + r) c) (rslot s r) : sProp 𝕄) from by
      rw [regroup_slots (fun s r => slotAny (peer (s + r) c) (rslot s r)),
        bigSep_congr (s := Finset.univ) (fun (k : Fin 3) _ => (show (bigSep Finset.univ fun s : Fin 3 => slotAny (peer (s + (k - s)) c) (rslot s (k - s)) : sProp 𝕄) = barPay k c from by
          unfold barPay; exact bigSep_congr fun s _ => by rw [stripe_peer])), bigSep_fin3])
    iexact Hp
  iexists _; iexact HO

end Cert.Butterfly

end
-- ==== Proof.Body.lean ====
/-
# The kernel's body

The body executed once, at a symbolic device: the handshake, the device's own share from its operands, nine exchanges,
the three stripes of the result.
-/
module

public import proofs.«01_k».proof.Proof.Steps
public import Idealize.ShloMosaic.Lib.WritesUnit

@[expose] public section

noncomputable section

namespace Cert.Butterfly

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

local notation "𝕄" => MT nD τ sig Unit (Elt F) ℕ UU ℕ

variable (m : (ℓ : Loc nD τ sig) → Buf (Elt F) ℓ)

/-! ## The payloads the program computes -/

/-- A rounded share, laid out as a slab and read back as a matrix, is the rounded share. -/
theorem slab_of_trunc {s : Fin 3} (a : FVec F (Mat s) .f32) :
    shapeCast (Mat s) (shapeCast (Slab s) (truncf .bf16 a bitsLt_bf16_f32) (mat_casts s)) (slab_casts s) = truncf .bf16 a bitsLt_bf16_f32 :=
  shapeCast_shapeCast _ _ _

/-- What arrived, read as a slab, widened and added. -/
theorem add_landed (s r : Fin 3) (c : Dev nD) :
    addf (acc m s r.val c) (extf .f32 (shapeCast (Mat s) (shapeCast (Slab s) (landed m s r c) (mat_casts s)) (slab_casts s)) bitsLt_bf16_f32)
      = acc m s (r.val + 1) c := by
  rw [shapeCast_shapeCast, acc_succ]

/-! ## The staging buffers -/

omit [FloatOps F] in
theorem hz : (![0, 0] : Fin 2 → Nat) = fun _ => 0 := funext fun a => by fin_cases a <;> rfl

/-- A whole staging buffer at given contents. -/
abbrev pts (c : Dev nD) (b : Ref sig .tc) (f : Buf (Elt F) ((c : Thread nD τ).loc b)) : sProp 𝕄 := ((c : Thread nD τ).loc b) ↦{fullShare} f

/-- A load from a whole staging buffer. -/
theorem load_whole (c : Dev nD) {sh : Shape} {e : EltTy} (M : Memref sig .tc .vmem sh e) {r : LoadRect sh} {hl : M.view.LoadsAt r}
    {f : Buf (Elt F) (M.view.loc (c : Thread nD τ))} {v : r.shape.Idx → Elt F e} (hv : M.view.readAt (Elt F) r f = v)
    {α : Type} {Q : α → sProp 𝕄} {k : (r.shape.Idx → Elt F e) → Prog (TpuEff nD τ sig (Elt F) Λ₀ .tc) α} :
    (M.view.loc (c : Thread nD τ) ↦{fullShare} f)
      ⊢ iprop(((M.view.loc (c : Thread nD τ) ↦{fullShare} f) -∗ wp frame (wpE (defs₀ (F := F)) 𝒱₀ (c : Thread nD τ) none) Set.univ (k v) Q)
      -∗ wp frame (wpE (defs₀ (F := F)) 𝒱₀ (c : Thread nD τ) none) Set.univ (.op (.load M r hl) k) Q) := by
  subst hv
  exact wp_load 𝒱₀ (c : Thread nD τ) none Set.univ (Finset.subset_univ _)

/-- A store to a whole staging buffer: one more write on top of those before. -/
theorem store_whole (c : Dev nD) {sh : Shape} {e : EltTy} (M : Memref sig .tc .vmem sh e) {r : Rect sh} {w : r.shape.Idx → Elt F e}
    {hx : (M.access r).Stores Finset.univ} {hm : (Finset.univ : Finset r.shape.Idx) = Finset.univ ∨ ∀ a, r.stride a = 1}
    {f : Buf (Elt F) (M.view.loc (c : Thread nD τ))} (W : List (View.Piece (Elt F) sh e))
    {α : Type} {Q : α → sProp 𝕄} {k : PUnit → Prog (TpuEff nD τ sig (Elt F) Λ₀ .tc) α} :
    (M.view.loc (c : Thread nD τ) ↦{fullShare} M.view.writes (Elt F) f W)
      ⊢ iprop(((M.view.loc (c : Thread nD τ) ↦{fullShare} M.view.writes (Elt F) f (⟨r, w⟩ :: W))
          -∗ wp frame (wpE (defs₀ (F := F)) 𝒱₀ (c : Thread nD τ) none) Set.univ (k ⟨⟩) Q)
      -∗ wp frame (wpE (defs₀ (F := F)) 𝒱₀ (c : Thread nD τ) none) Set.univ (.op (.store M r w Finset.univ hx hm) k) Q) :=
  wp_store 𝒱₀ (c : Thread nD τ) none Set.univ (m := M) (r := r) (w := w) (Mk := Finset.univ) (S := Finset.univ) (f := M.view.writes (Elt F) f W)
    (Finset.subset_univ _)

/-! ## What the loads read -/

theorem read_x (c : Dev nD) :
    (Memref.whole cc0_stg0_0 : Memref sig .tc .vmem S512x256 .bf16).view.readAt (Elt F)
      (Rect.unit (s := S512x256) ![0, 0] S512x256.size inb_S512x256_S512x256_0_0).toLoadRect (opX m c) = opX m c :=
  Memref.readAt_unit_zero (Elt F) cc0_stg0_0 hz _ _
theorem read_r (c : Dev nD) :
    (Memref.whole cc0_stg1_0 : Memref sig .tc .vmem S256x16 .bf16).view.readAt (Elt F)
      (Rect.unit (s := S256x16) ![0, 0] S256x16.size inb_S256x16_S256x16_0_0).toLoadRect (opR m c) = opR m c :=
  Memref.readAt_unit_zero (Elt F) cc0_stg1_0 hz _ _
theorem read_c0 (c : Dev nD) :
    (Memref.whole cc0_stg2_0 : Memref sig .tc .vmem S512x2 .i32).view.readAt (Elt F)
      (Rect.unit (s := S512x2) ![0, 0] S512x1.size inb_S512x2_S512x1_0_0).toLoadRect (opI m c) = col0 m c := rfl
theorem read_c1 (c : Dev nD) :
    (Memref.whole cc0_stg2_0 : Memref sig .tc .vmem S512x2 .i32).view.readAt (Elt F)
      (Rect.unit (s := S512x2) ![0, 1] S512x1.size inb_S512x2_S512x1_0_1).toLoadRect (opI m c) = col1 m c := rfl
theorem read_e0 (c : Dev nD) :
    (Memref.whole cc0_stg3_0 : Memref sig .tc .vmem S2x256x512 .bf16).view.readAt (Elt F)
      (Rect.unit (s := S2x256x512) ![0, 0, 0] S1x256x512.size inb_S2x256x512_S1x256x512_0_0_0).toLoadRect (opE m c) = exp0 m c := rfl
theorem read_e1 (c : Dev nD) :
    (Memref.whole cc0_stg3_0 : Memref sig .tc .vmem S2x256x512 .bf16).view.readAt (Elt F)
      (Rect.unit (s := S2x256x512) ![1, 0, 0] S1x256x512.size inb_S2x256x512_S1x256x512_1_0_0).toLoadRect (opE m c) = exp1 m c := rfl

/-! ## The payloads, named -/

theorem fold_dev (c : Dev nD) : Scalar.remsi (Scalar.divsi (Dev.word c) 1#32) 8#32 = devWord c := rfl
theorem fold_probs (c : Dev nD) : k0_pay2 (opX m c) (opR m c) = probs m c := rfl
theorem fold_wt0 (c : Dev nD) : k0_pay6 (devWord c) (probs m c) (k0_pay3 (col0 m c)) (col1 m c) = wt0 m c := rfl
theorem fold_hit1 (c : Dev nD) : k0_pay7 (devWord c) (k0_pay3 (col0 m c)) (col1 m c) = hit1 m c := rfl
theorem fold_frac1 (c : Dev nD) : k0_pay8 (devWord c) (probs m c) (k0_pay3 (col0 m c)) (col1 m c) = frac1 m c := rfl
theorem fold_wt1 (c : Dev nD) : k0_pay9 (hit1 m c) (frac1 m c) = wt1 m c := rfl
theorem fold_acc0 (c : Dev nD) :
    k0_pay12 (k0_pay1 (opX m c)) (wt0 m c) (hit1 m c) (frac1 m c) (exp0 m c) (exp1 m c) = acc m 0 0 c := rfl
theorem fold_acc1 (c : Dev nD) :
    k0_pay14 (k0_pay1 (opX m c)) (wt0 m c) (wt1 m c) (k0_pay10 (exp0 m c)) (k0_pay11 (exp1 m c)) = acc m 1 0 c := rfl
theorem fold_acc2 (c : Dev nD) :
    k0_pay19 (k0_pay16 (k0_pay1 (opX m c)) (wt0 m c) (k0_pay10 (exp0 m c))) (k0_pay17 (k0_pay1 (opX m c)) (k0_pay11 (exp1 m c)))
      (k0_pay18 (wt1 m c)) = acc m 2 0 c := rfl

/-- What round `r` of stripe `s` gives the program to read. -/
abbrev got (s r : Fin 3) (c : Dev nD) : FVec F (Slab s) .bf16 := shapeCast (Slab s) (landed m s r c) (mat_casts s)

theorem next00 (c : Dev nD) : k0_pay21 (acc m 0 0 c) (got m 0 0 c) = acc m 0 1 c := add_landed m 0 0 c
theorem next10 (c : Dev nD) : k0_pay23 (acc m 1 0 c) (got m 1 0 c) = acc m 1 1 c := add_landed m 1 0 c
theorem next20 (c : Dev nD) : k0_pay25 (acc m 2 0 c) (got m 2 0 c) = acc m 2 1 c := add_landed m 2 0 c
theorem next01 (c : Dev nD) : k0_pay28 (acc m 0 1 c) (got m 0 1 c) = acc m 0 2 c := add_landed m 0 1 c
theorem next11 (c : Dev nD) : k0_pay30 (acc m 1 1 c) (got m 1 1 c) = acc m 1 2 c := add_landed m 1 1 c
theorem next21 (c : Dev nD) : k0_pay32 (acc m 2 1 c) (got m 2 1 c) = acc m 2 2 c := add_landed m 2 1 c
theorem next02 (c : Dev nD) : k0_pay35 (acc m 0 2 c) (k0_pay34 (got m 0 2 c)) = acc m 0 3 c := add_landed m 0 2 c
theorem next12 (c : Dev nD) : k0_pay36 (acc m 1 2 c) (got m 1 2 c) = acc m 1 3 c := add_landed m 1 2 c
theorem next22 (c : Dev nD) : k0_pay37 (acc m 2 2 c) (got m 2 2 c) = acc m 2 3 c := add_landed m 2 2 c

/-- A share as it is written to its send slot. -/
abbrev put (s r : Fin 3) (c : Dev nD) : FVec F (Slab s) .bf16 := shapeCast (Slab s) (truncf .bf16 (acc m s r.val c) bitsLt_bf16_f32) (mat_casts s)

theorem put01 (c : Dev nD) : k0_pay22 (acc m 0 0 c) (got m 0 0 c) = put m 0 1 c :=
  congrArg (fun a => shapeCast (Slab 0) (truncf .bf16 a bitsLt_bf16_f32) (mat_casts 0)) (next00 m c)
theorem put11 (c : Dev nD) : k0_pay24 (acc m 1 0 c) (got m 1 0 c) = put m 1 1 c :=
  congrArg (fun a => shapeCast (Slab 1) (truncf .bf16 a bitsLt_bf16_f32) (mat_casts 1)) (next10 m c)
theorem put21 (c : Dev nD) : k0_pay27 (k0_pay26 (acc m 2 0 c) (got m 2 0 c)) = put m 2 1 c :=
  congrArg (fun a => shapeCast (Slab 2) (truncf .bf16 a bitsLt_bf16_f32) (mat_casts 2)) (next20 m c)
theorem put02 (c : Dev nD) : k0_pay29 (acc m 0 1 c) (got m 0 1 c) = put m 0 2 c :=
  congrArg (fun a => shapeCast (Slab 0) (truncf .bf16 a bitsLt_bf16_f32) (mat_casts 0)) (next01 m c)
theorem put12 (c : Dev nD) : k0_pay31 (acc m 1 1 c) (got m 1 1 c) = put m 1 2 c :=
  congrArg (fun a => shapeCast (Slab 1) (truncf .bf16 a bitsLt_bf16_f32) (mat_casts 1)) (next11 m c)
theorem put22 (c : Dev nD) : k0_pay33 (acc m 2 1 c) (got m 2 1 c) = put m 2 2 c :=
  congrArg (fun a => shapeCast (Slab 2) (truncf .bf16 a bitsLt_bf16_f32) (mat_casts 2)) (next21 m c)
theorem put00 (c : Dev nD) :
    k0_pay13 (k0_pay1 (opX m c)) (wt0 m c) (hit1 m c) (frac1 m c) (exp0 m c) (exp1 m c) = put m 0 0 c := rfl
theorem put10 (c : Dev nD) :
    k0_pay15 (k0_pay1 (opX m c)) (wt0 m c) (wt1 m c) (k0_pay10 (exp0 m c)) (k0_pay11 (exp1 m c)) = put m 1 0 c := rfl
theorem put20 (c : Dev nD) :
    k0_pay20 (k0_pay16 (k0_pay1 (opX m c)) (wt0 m c) (k0_pay10 (exp0 m c))) (k0_pay17 (k0_pay1 (opX m c)) (k0_pay11 (exp1 m c)))
      (k0_pay18 (wt1 m c)) = put m 2 0 c := rfl

/-- Three stripes written in turn to a view of the result's shape. -/
theorem stripes_written (v : View sig .tc .vmem S512x512 .f32) (f : v.ty.Contents (Elt F)) (c : Dev nD) (x : S512x512.Idx) :
    v.read (Elt F) (v.writes (Elt F) f
      [⟨Rect.unit (s := S512x512) ![344, 0] S168x512.size inb_S512x512_S168x512_344_0, acc m 2 3 c⟩,
        ⟨Rect.unit (s := S512x512) ![176, 0] S168x512.size inb_S512x512_S168x512_176_0, acc m 1 3 c⟩,
        ⟨Rect.unit (s := S512x512) ![0, 0] S176x512.size inb_S512x512_S176x512_0_0, acc m 0 3 c⟩]) x = outAt m c x := by
  have hx : (x (0 : Fin 2)).val < 512 := (x (0 : Fin 2)).isLt
  unfold outAt
  by_cases h1 : (x (0 : Fin 2)).val < 344
  · rw [View.read_writes_cons_rows_of_not_mem (o := 344) (W := 168) _ _ _ _ _ x rfl rfl (.inl h1)]
    by_cases h0 : (x (0 : Fin 2)).val < 176
    · rw [View.read_writes_cons_rows_of_not_mem (o := 176) (W := 168) _ _ _ _ _ x rfl rfl (.inl h0), dif_pos h0]
      exact View.read_writes_cons_rows_of_mem (o := 0) _ _ _ _ _ x (ix2 ⟨(x (0 : Fin 2)).val, h0⟩ (x (1 : Fin 2))) rfl (Nat.zero_add _).symm rfl
    · rw [dif_neg h0, dif_pos h1]
      exact View.read_writes_cons_rows_of_mem (o := 176) _ _ _ _ _ x (ix2 ⟨(x (0 : Fin 2)).val - 176, by show _ < 168; omega⟩ (x (1 : Fin 2))) rfl
        (by show (x (0 : Fin 2)).val = 176 + ((x (0 : Fin 2)).val - 176); omega) rfl
  · rw [dif_neg (by omega), dif_neg h1]
    exact View.read_writes_cons_rows_of_mem (o := 344) _ _ _ _ _ x (ix2 ⟨(x (0 : Fin 2)).val - 344, by show _ < 168; omega⟩ (x (1 : Fin 2))) rfl
      (by show (x (0 : Fin 2)).val = 344 + ((x (0 : Fin 2)).val - 344); omega) rfl

omit [FloatOps F] in
/-- Nine resources, one to an exchange. -/
theorem grid (Φ : Fin 3 → Fin 3 → sProp 𝕄) :
    (bigSep Finset.univ fun s : Fin 3 => bigSep Finset.univ fun r : Fin 3 => Φ s r)
      ⊣⊢ iprop((Φ 0 0 ∗ Φ 0 1 ∗ Φ 0 2) ∗ (Φ 1 0 ∗ Φ 1 1 ∗ Φ 1 2) ∗ Φ 2 0 ∗ Φ 2 1 ∗ Φ 2 2) := by
  rw [bigSep_fin3, bigSep_fin3, bigSep_fin3, bigSep_fin3]

/-- What the body starts from, -/
def start (K : Dev nD × Cx → ℕ) (c : Dev nD) : sProp 𝕄 :=
  iprop(records m K ∗ levAts L lv ∗ greet c ∗ bigSep Finset.univ fun s : Fin 3 => bigSep Finset.univ fun r : Fin 3 => ready c s r)
/-- and what it ends with. -/
def finish (c : Dev nD) : sProp 𝕄 :=
  iprop(semVal (barCell c) 0 ∗ bigSep Finset.univ fun s : Fin 3 => bigSep Finset.univ fun r : Fin 3 => done c s r)

def operands (c : Dev nD) : sProp 𝕄 :=
  iprop(pts c cc0_stg0_0 (opX m c) ∗ pts c cc0_stg1_0 (opR m c) ∗ pts c cc0_stg2_0 (opI m c) ∗ pts c cc0_stg3_0 (opE m c))

set_option maxHeartbeats 4000000 in
set_option maxRecDepth 20000 in
theorem body_run (K : Dev nD × Cx → ℕ) (c : Dev nD) (Kt : PUnit → sProp 𝕄) :
    iprop((start m K c ∗ owing c (O₀ c) ∗ operands m c ∗ ∃ f, pts c cc0_stg4_0 f)
        ∗ ((finish c ∗ owing c 0 ∗ operands m c ∗ pts c cc0_stg4_0 (outAt m c)) -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) (Memref.whole cc0_scratch4) (Memref.isWhole_whole _)
            (Memref.whole cc0_scratch5) (Memref.isWhole_whole _) cc0_scratch6 cc0_scratch7) Kt := by
  simp only [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton, k0_part11_eq_skeleton,
    k0_part12_eq_skeleton, k0_part13_eq_skeleton, k0_part14_eq_skeleton, k0_part15_eq_skeleton]
  unfold k0_part15_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton, k0_part11_eq_skeleton,
    k0_part12_eq_skeleton, k0_part13_eq_skeleton, k0_part14_eq_skeleton]
  unfold k0_part1_skel k0_part2_skel k0_part3_skel k0_part4_skel k0_part5_skel k0_part6_skel k0_part7_skel k0_part8_skel k0_part9_skel
    k0_part10_skel k0_part11_skel k0_part12_skel k0_part13_skel k0_part14_skel
  simp only [semSignalWord, semWaitWord, Prog.lift, Prog.bind_op, Prog.bind_ret, Prog.pure_eq_ret, wp_deviceId]
  unfold start finish operands
  iintro ⟨⟨⟨#HR, #Hlev, Hg, Hrd⟩, HO, ⟨Hx, Hr, Hi, He⟩, ⟨%g, Hout⟩⟩, Hk⟩
  iapply (handshake m K c _ _ _ (dev1_eq c) (dev2_eq c) (dev3_eq c)) $$ [Hg HO]
  · isplitr; · iexact HR
    isplitr; · iexact Hlev
    isplitl [Hg]; · iexact Hg
    iexact HO
  iintro ⟨HzB, Hsl, HO⟩
  rw [fold_dev]
  iapply (load_whole c (Memref.whole cc0_stg0_0) (read_x m c)) $$ Hx; iintro Hx
  iapply (load_whole c (Memref.whole cc0_stg1_0) (read_r m c)) $$ Hr; iintro Hr
  iapply (load_whole c (Memref.whole cc0_stg2_0) (read_c0 m c)) $$ Hi; iintro Hi
  iapply (load_whole c (Memref.whole cc0_stg2_0) (read_c1 m c)) $$ Hi; iintro Hi
  rw [fold_probs, fold_wt0, fold_hit1, fold_frac1, fold_wt1]
  iapply (load_whole c (Memref.whole cc0_stg3_0) (read_e0 m c)) $$ He; iintro He
  iapply (load_whole c (Memref.whole cc0_stg3_0) (read_e1 m c)) $$ He; iintro He
  rw [fold_acc0, fold_acc1, fold_acc2, put00, put10, put20]
  ihave Hrd := (grid (fun s r => ready (F := F) c s r)).1 $$ Hrd
  ihave Hsl := (grid (fun s r => slotAny (F := F) (peer (s + r) c) (rslot s r))).1 $$ Hsl
  icases Hrd with ⟨⟨Hrd00, Hrd01, Hrd02⟩, ⟨Hrd10, Hrd11, Hrd12⟩, ⟨Hrd20, Hrd21, Hrd22⟩⟩
  icases Hsl with ⟨⟨Hd00, Hd01, Hd02⟩, ⟨Hd10, Hd11, Hd12⟩, ⟨Hd20, Hd21, Hd22⟩⟩
  iapply (launch m K c _ 0 0 (dev4_eq c) (put m 0 0 c) (slab_of_trunc (acc m 0 0 c)) _) $$ [Hrd00 Hd00 HO]
  · isplitr; · iexact HR
    isplitl [Hrd00]; · iexact Hrd00
    isplitl [Hd00]; · iexact Hd00
    iexact HO
  iintro ⟨Hf00, HO⟩
  iapply (launch m K c _ 1 0 (dev5_eq c) (put m 1 0 c) (slab_of_trunc (acc m 1 0 c)) _) $$ [Hrd10 Hd10 HO]
  · isplitr; · iexact HR
    isplitl [Hrd10]; · iexact Hrd10
    isplitl [Hd10]; · iexact Hd10
    iexact HO
  iintro ⟨Hf10, HO⟩
  iapply (launch m K c _ 2 0 (dev6_eq c) (put m 2 0 c) (slab_of_trunc (acc m 2 0 c)) _) $$ [Hrd20 Hd20 HO]
  · isplitr; · iexact HR
    isplitl [Hrd20]; · iexact Hrd20
    isplitl [Hd20]; · iexact Hd20
    iexact HO
  iintro ⟨Hf20, HO⟩
  iapply (collect m K c 0 0 (order.drop 3) (by decide)) $$ [Hf00 HO]
  · isplitr; · iexact HR
    isplitr; · iexact Hlev
    isplitl [Hf00]; · iexact Hf00
    iexact HO
  iintro ⟨Hdn00, HO⟩
  rw [put01, next00]
  iapply (launch m K c _ 0 1 (dev7_eq c) (put m 0 1 c) (slab_of_trunc (acc m 0 1 c)) _) $$ [Hrd01 Hd01 HO]
  · isplitr; · iexact HR
    isplitl [Hrd01]; · iexact Hrd01
    isplitl [Hd01]; · iexact Hd01
    iexact HO
  iintro ⟨Hf01, HO⟩
  iapply (collect m K c 1 0 (order.drop 4) (by decide)) $$ [Hf10 HO]
  · isplitr; · iexact HR
    isplitr; · iexact Hlev
    isplitl [Hf10]; · iexact Hf10
    iexact HO
  iintro ⟨Hdn10, HO⟩
  rw [put11, next10]
  iapply (launch m K c _ 1 1 (dev8_eq c) (put m 1 1 c) (slab_of_trunc (acc m 1 1 c)) _) $$ [Hrd11 Hd11 HO]
  · isplitr; · iexact HR
    isplitl [Hrd11]; · iexact Hrd11
    isplitl [Hd11]; · iexact Hd11
    iexact HO
  iintro ⟨Hf11, HO⟩
  iapply (collect m K c 2 0 (order.drop 5) (by decide)) $$ [Hf20 HO]
  · isplitr; · iexact HR
    isplitr; · iexact Hlev
    isplitl [Hf20]; · iexact Hf20
    iexact HO
  iintro ⟨Hdn20, HO⟩
  rw [put21, next20]
  iapply (launch m K c _ 2 1 (dev9_eq c) (put m 2 1 c) (slab_of_trunc (acc m 2 1 c)) _) $$ [Hrd21 Hd21 HO]
  · isplitr; · iexact HR
    isplitl [Hrd21]; · iexact Hrd21
    isplitl [Hd21]; · iexact Hd21
    iexact HO
  iintro ⟨Hf21, HO⟩
  iapply (collect m K c 0 1 (order.drop 6) (by decide)) $$ [Hf01 HO]
  · isplitr; · iexact HR
    isplitr; · iexact Hlev
    isplitl [Hf01]; · iexact Hf01
    iexact HO
  iintro ⟨Hdn01, HO⟩
  rw [put02, next01]
  iapply (launch m K c _ 0 2 (dev10_eq c) (put m 0 2 c) (slab_of_trunc (acc m 0 2 c)) _) $$ [Hrd02 Hd02 HO]
  · isplitr; · iexact HR
    isplitl [Hrd02]; · iexact Hrd02
    isplitl [Hd02]; · iexact Hd02
    iexact HO
  iintro ⟨Hf02, HO⟩
  iapply (collect m K c 1 1 (order.drop 7) (by decide)) $$ [Hf11 HO]
  · isplitr; · iexact HR
    isplitr; · iexact Hlev
    isplitl [Hf11]; · iexact Hf11
    iexact HO
  iintro ⟨Hdn11, HO⟩
  rw [put12, next11]
  iapply (launch m K c _ 1 2 (dev11_eq c) (put m 1 2 c) (slab_of_trunc (acc m 1 2 c)) _) $$ [Hrd12 Hd12 HO]
  · isplitr; · iexact HR
    isplitl [Hrd12]; · iexact Hrd12
    isplitl [Hd12]; · iexact Hd12
    iexact HO
  iintro ⟨Hf12, HO⟩
  iapply (collect m K c 2 1 (order.drop 8) (by decide)) $$ [Hf21 HO]
  · isplitr; · iexact HR
    isplitr; · iexact Hlev
    isplitl [Hf21]; · iexact Hf21
    iexact HO
  iintro ⟨Hdn21, HO⟩
  rw [put22, next21]
  iapply (launch m K c _ 2 2 (dev12_eq c) (put m 2 2 c) (slab_of_trunc (acc m 2 2 c)) _) $$ [Hrd22 Hd22 HO]
  · isplitr; · iexact HR
    isplitl [Hrd22]; · iexact Hrd22
    isplitl [Hd22]; · iexact Hd22
    iexact HO
  iintro ⟨Hf22, HO⟩
  ihave Hout := (show pts c cc0_stg4_0 g
    ⊢ ((Memref.whole cc0_stg4_0 : Memref sig .tc .vmem S512x512 .f32).view.loc (c : Thread nD τ) ↦{fullShare}
        (Memref.whole cc0_stg4_0 : Memref sig .tc .vmem S512x512 .f32).view.writes (Elt F) g []) from BI.Entails.refl _) $$ Hout
  iapply (collect m K c 0 2 (order.drop 9) (by decide)) $$ [Hf02 HO]
  · isplitr; · iexact HR
    isplitr; · iexact Hlev
    isplitl [Hf02]; · iexact Hf02
    iexact HO
  iintro ⟨Hdn02, HO⟩
  rw [next02]
  iapply (load_whole c (Memref.whole cc0_stg4_0) rfl) $$ Hout; iintro Hout
  iapply (store_whole c (Memref.whole cc0_stg4_0) _) $$ Hout; iintro Hout
  iapply (collect m K c 1 2 (order.drop 9) (by decide)) $$ [Hf12 HO]
  · isplitr; · iexact HR
    isplitr; · iexact Hlev
    isplitl [Hf12]; · iexact Hf12
    iexact HO
  iintro ⟨Hdn12, HO⟩
  rw [next12]
  iapply (load_whole c (Memref.whole cc0_stg4_0) rfl) $$ Hout; iintro Hout
  iapply (store_whole c (Memref.whole cc0_stg4_0) _) $$ Hout; iintro Hout
  iapply (collect m K c 2 2 (order.drop 9) (by decide)) $$ [Hf22 HO]
  · isplitr; · iexact HR
    isplitr; · iexact Hlev
    isplitl [Hf22]; · iexact Hf22
    iexact HO
  iintro ⟨Hdn22, HO⟩
  rw [next22]
  iapply (load_whole c (Memref.whole cc0_stg4_0) rfl) $$ Hout; iintro Hout
  iapply (store_whole c (Memref.whole cc0_stg4_0) _) $$ Hout; iintro Hout
  rw [wp_ret]; imodintro
  iapply Hk
  isplitl [HzB Hdn00 Hdn01 Hdn02 Hdn10 Hdn11 Hdn12 Hdn20 Hdn21 Hdn22]
  · isplitl [HzB]; · iexact HzB
    iapply (grid (fun s r => done (F := F) c s r)).2
    isplitl [Hdn00 Hdn01 Hdn02]
    · isplitl [Hdn00]; · iexact Hdn00
      isplitl [Hdn01]; · iexact Hdn01
      iexact Hdn02
    isplitl [Hdn10 Hdn11 Hdn12]
    · isplitl [Hdn10]; · iexact Hdn10
      isplitl [Hdn11]; · iexact Hdn11
      iexact Hdn12
    isplitl [Hdn20]; · iexact Hdn20
    isplitl [Hdn21]; · iexact Hdn21
    iexact Hdn22
  isplitl [HO]; · iexact HO
  isplitr [Hout]
  · isplitl [Hx]; · iexact Hx
    isplitl [Hr]; · iexact Hr
    isplitl [Hi]; · iexact Hi
    iexact He
  rw [show outAt m c = _ from funext fun x => (stripes_written m (View.whole cc0_stg4_0) g c x).symm]
  iexact Hout

end Cert.Butterfly

end
-- ==== Proof.Deal.lean ====
/-
# What the launch deals

Every device's cells and tokens minted at once, the invariants allocated, each token handed to the device that pays it, and
each device's right to the units it is owed.
-/
module

public import proofs.«01_k».proof.Proof.Body
public import Idealize.ShloMosaic.Lib.Pipeline.Kit

@[expose] public section

noncomputable section

namespace Cert.Butterfly

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Families over a device's cells -/

omit [FloatOps F] in
/-- A device's own cells, one pair to an exchange; -/
theorem own_grid (Φ : Ox → sProp 𝕄) :
    bigSep Finset.univ Φ
      = bigSep Finset.univ fun s : Fin 3 => bigSep Finset.univ fun r : Fin 3 => iprop(Φ (false, s, r) ∗ Φ (true, s, r)) := by
  rw [bigSep_univ_prod, bigSep_univ_eq_bigSepL [false, true] (by decide) (by decide)]
  show iprop(bigSep Finset.univ (fun p : Fin 3 × Fin 3 => Φ (false, p)) ∗ bigSep Finset.univ fun p : Fin 3 × Fin 3 => Φ (true, p)) = _
  rw [← bigSep_sep', bigSep_univ_prod]

omit [FloatOps F] in
/-- all of its cells: the barrier and those. -/
theorem cell_grid (Φ : Cx → sProp 𝕄) :
    bigSep Finset.univ Φ = iprop(Φ none ∗ bigSep Finset.univ fun o : Ox => Φ (some o)) := by
  rw [bigSep_univ_at _ none, show (Finset.univ : Finset Cx).erase none = Finset.univ.map Function.Embedding.some from by decide, bigSep_map]
  rfl

omit [FloatOps F] in
/-- A family over devices, dealt: what belongs to a device goes to its partner. -/
theorem deal {I : Type} [Fintype I] (k : I → Fin 3) (Φ : I → Dev nD → sProp 𝕄) :
    (bigSep Finset.univ fun c : Dev nD => bigSep Finset.univ fun i : I => Φ i c)
      = bigSep Finset.univ fun c : Dev nD => bigSep Finset.univ fun i : I => Φ i (peer (k i) c) := by
  rw [Pipeline.bigSep_univ_comm, Pipeline.bigSep_univ_comm (fun c i => Φ i (peer (k i) c))]
  exact bigSep_congr fun i _ => bigSep_univ_equiv (swap (k i)) (fun c => Φ i c)

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-! ## Minting -/

def allCells : Finset (GSem nD τ sig) := Finset.univ.map ⟨kcell, kcell_injective⟩

/-- A duty: one of a barrier's three, or the one of an own cell. -/
abbrev Duty : Type := Fin 3 ⊕ Ox
def tokOf : Dev nD × Duty → GSem nD τ sig × ℕ × Fin 3
  | (c, .inl k) => (barCell c, 0, k)
  | (c, .inr o) => (kcell (c, some o), 0, 0)

theorem tokOf_injective : Function.Injective tokOf := by
  rintro ⟨c, a⟩ ⟨c', a'⟩ h
  have h0 := kcell_injective (a₁ := (c, a.elim (fun _ => none) some)) (a₂ := (c', a'.elim (fun _ => none) some)) (by
    have := congrArg Prod.fst h
    cases a <;> cases a' <;> exact this)
  have h1 : c = c' := congrArg Prod.fst h0
  have h2 : a.elim (fun _ => none) some = a'.elim (fun _ => (none : Cx)) some := congrArg Prod.snd h0
  have h3 := congrArg (fun x => x.2.2) h
  subst h1
  cases a with
  | inl k => cases a' with
    | inl k' => rw [show k = k' from h3]
    | inr o' => exact absurd h2 (by simp)
  | inr o => cases a' with
    | inl k' => exact absurd h2 (by simp)
    | inr o' => rw [show o = o' from Option.some.inj h2]

def allToks : Finset (GSem nD τ sig × ℕ × Fin 3) := Finset.univ.map ⟨tokOf, tokOf_injective⟩

def u₀ : UU := (initOf (Pipeline.cells cfgs cellOf_inj) (Pipeline.launchToks cfgs cellOf_inj), initOf allCells allToks)

/-- The tokens of a device's own cells, -/
def minted (c : Dev nD) : sProp 𝕄 :=
  iprop((bigSep Finset.univ fun k : Fin 3 => dutyTok ER (barCell c) 0 k)
    ∗ bigSep Finset.univ fun p : Fin 3 × Fin 3 => iprop(dutyTok ER (sendCell c p.1 p.2) 0 0 ∗ dutyTok ER (recvCell c p.1 p.2) 0 0))
/-- and the tokens of the duties it pays. -/
def payable (c : Dev nD) : sProp 𝕄 :=
  iprop((bigSep Finset.univ fun k : Fin 3 => dutyTok ER (barCell (peer k c)) 0 k)
    ∗ bigSep Finset.univ fun p : Fin 3 × Fin 3 =>
        iprop(dutyTok ER (sendCell c p.1 p.2) 0 0 ∗ dutyTok ER (recvCell (peer (p.1 + p.2) c) p.1 p.2) 0 0))

omit [FloatOps F] in
theorem dealt : (bigSep Finset.univ fun c : Dev nD => (minted c : sProp 𝕄)) ⊢ bigSep Finset.univ fun c : Dev nD => payable c := by
  refine Entails.of_eq ?_
  unfold minted payable
  rw [bigSep_sep', bigSep_sep', deal (fun k : Fin 3 => k) (fun k c => dutyTok ER (barCell c) 0 k)]
  congr 1
  simp only [bigSep_sep']
  congr 1
  exact deal (fun p : Fin 3 × Fin 3 => p.1 + p.2) (fun p c => dutyTok ER (recvCell c p.1 p.2) 0 0)

/-- What the launch element gives device `c`. -/
def given (c : Dev nD) : sProp 𝕄 :=
  iprop((bigSep Finset.univ fun k : Cx => roundState ER (sched m) (kcell (c, k)) 0)
    ∗ (bigSep Finset.univ fun k : Cx => iprop(atPos ER (kcell (c, k)) 0 ∅ 0 ∗ reached ER (kcell (c, k)) 0)) ∗ minted c)

theorem fund : BI.own (ER (initOf allCells allToks)) ⊢ (|==> bigSep Finset.univ (given m) : sProp 𝕄) := by
  have hX (Φ : GSem nD τ sig → sProp 𝕄) : bigSep allCells Φ = bigSep Finset.univ fun c : Dev nD => bigSep Finset.univ fun k : Cx => Φ (kcell (c, k)) := by
    unfold allCells; rw [bigSep_map, bigSep_univ_prod]; rfl
  have hT : bigSep allToks (fun x => (dutyTok ER x.1 x.2.1 x.2.2 : sProp 𝕄)) = bigSep Finset.univ fun c : Dev nD => minted c := by
    unfold allToks; rw [bigSep_map, bigSep_univ_prod]
    refine bigSep_congr fun c _ => ?_
    unfold minted
    rw [bigSep_univ_sum, own_grid,
      bigSep_univ_prod (fun p : Fin 3 × Fin 3 => iprop(dutyTok ER (sendCell c p.1 p.2) 0 0 ∗ dutyTok ER (recvCell c p.1 p.2) 0 0))]
    rfl
  iintro HX
  imod (Rounds.fund ER (sched m) allCells allToks) $$ HX with ⟨Hst, Hr, Hat, Htok⟩
  imodintro
  ihave Hst := (Entails.of_eq (hX fun g => roundState ER (sched m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold given; simp only [bigSep_sep']
  isplitl [Hst]; · iexact Hst
  isplitl [Hat Hr]
  · isplitl [Hat] <;> iassumption
  iexact Htok

/-! ## The invariants -/

omit [FloatOps F] in
theorem ownSems0_eq (c : Dev nD) :
    (Pipeline.ownSems0 (Ix := Unit) (Name := ℕ) (U := UU) (Lvl := ℕ) (Val := Elt F) (τ := τ) osem c : sProp 𝕄)
      = bigSep Finset.univ fun o : Ox => semVal (kcell (c, some o)) 0 := rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

theorem allocate (c : Dev nD) :
    iprop(Pipeline.ownSems0 (Ix := Unit) (Name := ℕ) (U := UU) (Lvl := ℕ) (Val := Elt F) (τ := τ) osem c ∗ unscopedSems0 c ∗ given m c)
      ⊢ |={Set.univ}=> iprop((bigSep Finset.univ fun k : Cx => iprop(∃ κ : ℕ, cellInv ER (sched m) κ (kcell (c, k))))
          ∗ (bigSep Finset.univ fun k : Cx => iprop(atPos ER (kcell (c, k)) 0 ∅ 0 ∗ reached ER (kcell (c, k)) 0)) ∗ minted c) := by
  unfold given
  rw [ownSems0_eq, unscopedSems0_eq]
  iintro ⟨Hos, Hus, Hst, Hat, Htok⟩
  ihave Hv := (Entails.of_eq (cell_grid (F := F) fun k => semVal (kcell (c, k)) 0).symm) $$ [Hos Hus]
  · isplitl [Hus] <;> iassumption
  imod (show iprop((bigSep Finset.univ fun k : Cx => semVal (kcell (c, k)) 0) ∗ bigSep Finset.univ fun k : Cx => roundState ER (sched m) (kcell (c, k)) 0)
      ⊢ (|={Set.univ}=> bigSep Finset.univ fun k : Cx => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What is then device `c`'s alone: its positions and the tokens of the duties it pays. -/
def mine (c : Dev nD) : sProp 𝕄 := iprop((bigSep Finset.univ fun k : Cx => atPos ER (kcell (c, k)) 0 ∅ 0) ∗ payable c)
/-- What it starts from, at some names of the invariants. -/
def settled (c : Dev nD) : sProp 𝕄 := iprop(∃ K, records m K ∗ mine c)

theorem share_out :
    (bigSep Finset.univ fun c : Dev nD => iprop((bigSep Finset.univ fun k : Cx => iprop(∃ κ : ℕ, cellInv ER (sched m) κ (kcell (c, k))))
          ∗ (bigSep Finset.univ fun k : Cx => iprop(atPos ER (kcell (c, k)) 0 ∅ 0 ∗ reached ER (kcell (c, k)) 0)) ∗ minted c) : sProp 𝕄)
      ⊢ bigSep Finset.univ (settled m) := by
  rw [bigSep_sep', bigSep_sep', ← bigSep_univ_prod (fun ck : Dev nD × Cx => iprop(∃ κ : ℕ, cellInv ER (sched m) κ (kcell ck))),
    bigSep_congr (s := Finset.univ) (fun (c : Dev nD) _ => bigSep_sep' Finset.univ (fun k : Cx => (atPos ER (kcell (c, k)) 0 ∅ 0 : sProp 𝕄)) (fun k => reached ER (kcell (c, k)) 0)),
    bigSep_sep', ← bigSep_univ_prod (fun ck : Dev nD × Cx => (reached ER (kcell ck) 0 : sProp 𝕄))]
  iintro ⟨HI, ⟨Hat, #HR⟩, Htok⟩
  ihave HK := (BI.bigSep_exists_pi Finset.univ (fun (ck : Dev nD × Cx) (κ : ℕ) => (cellInv ER (sched m) κ (kcell ck) : sProp 𝕄))) $$ HI
  icases HK with ⟨%K, #HI⟩
  ihave Htk := (dealt (F := F)) $$ Htok
  iapply (bigSep_with_persistent (R := records m K) (Φ := mine) (Ψ := settled m) fun c _ => by
    unfold settled
    iintro H
    iexists K; iexact H)
  isplitr
  · unfold records; isplitl; · iexact HI
    iexact HR
  · unfold mine; rw [bigSep_sep']
    isplitl [Hat] <;> iassumption

/-- Every device's semaphores at once. -/
theorem settle :
    (bigSep Finset.univ fun c => iprop(Pipeline.ownSems0 (Ix := Unit) (Name := ℕ) (U := UU) (Lvl := ℕ) (Val := Elt F) (τ := τ) osem c ∗ unscopedSems0 c ∗ given m c) : sProp 𝕄)
      ⊢ |={Set.univ}=> bigSep Finset.univ (settled m) :=
  ((bigSep_mono fun c _ => allocate m c).trans (bigSep_fupd _ _)).trans (BI.fupd_mono (share_out m))

/-! ## The units a device is owed -/

omit [FloatOps F] in
/-- If every device owes its partner `n` units of a cell, every device is owed `n` units of it. -/
theorem owed_by_peer (k : Fin 3) (x : Cx) (n : ℕ) (c : Dev nD) :
    (Pipeline.launchCred (fun d => tallyAt (kcell (peer k d, x)) () n) c : sProp 𝕄) ⊢ cred (tallyAt (kcell (c, x)) () n) := by
  refine (Pipeline.launchCred_elim _ c (csem x)).trans (Entails.of_eq (congrArg cred ?_))
  unfold tallyAt
  refine congrArg _ (Finsupp.ext fun u => ?_)
  cases u
  rw [Pipeline.launchCredit_owing, Finsupp.single_eq_same, Fintype.sum_eq_single (peer k c) fun d hd => ?_]
  · rw [peer_peer]; exact (tallyAt_apply ..).trans (if_pos ⟨rfl, rfl⟩)
  · refine (tallyAt_apply ..).trans (if_neg fun h => hd ?_)
    have h1 : c = peer k d := congrArg Prod.fst (kcell_injective (a₁ := (c, x)) (a₂ := (peer k d, x)) h.1)
    rw [h1, peer_peer]

/-- The right to the arrivals of a list of exchanges. -/
def arrivals (c : Dev nD) : List (Fin 3 × Fin 3) → sProp 𝕄
  | [] => iprop(emp)
  | p :: l => iprop(cred (tallyAt (recvCell c p.1 p.2) () (amt p.1 p.2)) ∗ arrivals c l)

omit [FloatOps F] in
theorem owed_dues (c : Dev nD) : ∀ l : List (Fin 3 × Fin 3),
    (Pipeline.launchCred (fun d => dues d l) c : sProp 𝕄) ⊢ arrivals c l
  | [] => by unfold arrivals; iintro -; iempintro
  | p :: l => by
    show (Pipeline.launchCred (fun d => dues d l + tallyAt (recvCell (peer (p.1 + p.2) d) p.1 p.2) () (amt p.1 p.2)) c : sProp 𝕄)
      ⊢ iprop(cred (tallyAt (recvCell c p.1 p.2) () (amt p.1 p.2)) ∗ arrivals c l)
    rw [Pipeline.launchCred_add]
    iintro ⟨H, Hp⟩
    ihave H := (owed_dues c l) $$ H
    ihave Hp := (owed_by_peer (F := F) (p.1 + p.2) (some (true, p.1, p.2)) (amt p.1 p.2) c) $$ Hp
    isplitl [Hp] <;> iassumption

omit [FloatOps F] in
/-- A device's right to its barrier's three units and to what its receive cells will get. -/
theorem creds (c : Dev nD) :
    (Pipeline.launchCred O₀ c : sProp 𝕄) ⊢ iprop(cred (tallyAt (barCell c) () 3)
      ∗ bigSep Finset.univ fun s : Fin 3 => bigSep Finset.univ fun r : Fin 3 => cred (tallyAt (recvCell c s r) () (amt s r))) := by
  show (Pipeline.launchCred (fun d => ((dues d order + tallyAt (kcell (peer 2 d, none)) () 1) + tallyAt (kcell (peer 1 d, none)) () 1)
    + tallyAt (kcell (peer 0 d, none)) () 1) c : sProp 𝕄) ⊢ _
  rw [Pipeline.launchCred_add, Pipeline.launchCred_add, Pipeline.launchCred_add]
  iintro ⟨⟨⟨H, H2⟩, H1⟩, H0⟩
  ihave H := (owed_dues (F := F) c order) $$ H
  ihave H0 := (owed_by_peer (F := F) 0 none 1 c) $$ H0
  ihave H1 := (owed_by_peer (F := F) 1 none 1 c) $$ H1
  ihave H2 := (owed_by_peer (F := F) 2 none 1 c) $$ H2
  isplitr [H]
  · rw [show tallyAt (barCell c) () 3 = (tallyAt (barCell c) () 1 + (tallyAt (barCell c) () 1 + tallyAt (barCell c) () 1) : CellTallies nD τ sig Unit) by
      rw [tallyAt_add, tallyAt_add]]
    iapply (cred_add _ _).2
    isplitl [H0]; · iexact H0
    iapply (cred_add _ _).2
    isplitl [H1] <;> iassumption
  · iapply (grid (F := F) fun s r => cred (tallyAt (recvCell c s r) () (amt s r))).2
    simp only [arrivals]
    icases H with ⟨H00, H10, H20, H01, H11, H21, H02, H12, H22, -⟩
    isplitl [H00 H01 H02]
    · isplitl [H00]; · iexact H00
      isplitl [H01] <;> iassumption
    isplitl [H10 H11 H12]
    · isplitl [H10]; · iexact H10
      isplitl [H11] <;> iassumption
    isplitl [H20]; · iexact H20
    isplitl [H21] <;> iassumption

end Cert.Butterfly

end
-- ==== Proof.Run.lean ====
/-
# The whole mesh's run

The body's run put under the launch: from any memory with zero counters every device ends with its operands as they were, its
result array at the three stripes' sums, and every counter at zero.
-/
module

public import proofs.«01_k».proof.Proof.Deal
public import Idealize.ShloMosaic.Lib.Pipeline.CollectiveSegs

@[expose] public section

noncomputable section

namespace Cert.Butterfly

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

/-! ## The data of the one grid point -/

abbrev dats (_ : Fin 1) (c : Dev nD) : Dat τ (Elt F) Unit ℕ UU ℕ cfg0 c where
  A w := (s₀ m ρ).mem ((cfg0.win w).arr.view.loc (c : Thread nD τ))
  after w _ := match w with
    | ⟨0, _⟩ => opX m c
    | ⟨1, _⟩ => opR m c
    | ⟨2, _⟩ => opI m c
    | ⟨3, _⟩ => opE m c
    | ⟨4, _⟩ => outAt m c
  Φ t := match t with
    | ⟨0, _⟩ => iprop(∃ K, start m K c)
    | ⟨_ + 1, _⟩ => finish c
  q _ := fullShare
  owed t := match t with
    | ⟨0, _⟩ => O₀ c
    | ⟨_ + 1, _⟩ => 0

/-- Window `w`'s block read back is its whole array. -/
theorem read_blk0 (f : main_arg0.ty.Contents (Elt F)) : (win0_0.blk t0_0).view.read (Elt F) f = f :=
  Memref.read_access_unit_zero (Elt F) main_arg0 (funext fun a => by fin_cases a <;> decide) (fun a => by fin_cases a <;> decide) f
theorem read_blk1 (f : main_arg1.ty.Contents (Elt F)) : (win0_1.blk t0_0).view.read (Elt F) f = f :=
  Memref.read_access_unit_zero (Elt F) main_arg1 (funext fun a => by fin_cases a <;> decide) (fun a => by fin_cases a <;> decide) f
theorem read_blk2 (f : main_arg2.ty.Contents (Elt F)) : (win0_2.blk t0_0).view.read (Elt F) f = f :=
  Memref.read_access_unit_zero (Elt F) main_arg2 (funext fun a => by fin_cases a <;> decide) (fun a => by fin_cases a <;> decide) f
theorem read_blk3 (f : main_arg3.ty.Contents (Elt F)) : (win0_3.blk t0_0).view.read (Elt F) f = f :=
  Memref.read_access_unit_zero (Elt F) main_arg3 (funext fun a => by fin_cases a <;> decide) (fun a => by fin_cases a <;> decide) f
theorem read_blk4 (f : main_v1.ty.Contents (Elt F)) : (win0_4.blk t0_0).view.read (Elt F) f = f :=
  Memref.read_access_unit_zero (Elt F) main_v1 (funext fun a => by fin_cases a <;> decide) (fun a => by fin_cases a <;> decide) f

theorem fetched (w : Fin 5) (h : (cfg0.win w).isOut = false) : (cfg0.win w).fetch t0_0 = true := by fin_cases w <;> first | rfl | exact absurd h (by decide)

theorem before0 (c : Dev nD) (d) : (dats m ρ 0 c).before (0 : Fin 5) t0_0 d = opX m c := by
  unfold Dat.before; rw [if_pos (fetched 0 rfl)]; exact read_blk0 (F := F) _
theorem before1 (c : Dev nD) (d) : (dats m ρ 0 c).before (1 : Fin 5) t0_0 d = opR m c := by
  unfold Dat.before; rw [if_pos (fetched 1 rfl)]; exact read_blk1 (F := F) _
theorem before2 (c : Dev nD) (d) : (dats m ρ 0 c).before (2 : Fin 5) t0_0 d = opI m c := by
  unfold Dat.before; rw [if_pos (fetched 2 rfl)]; exact read_blk2 (F := F) _
theorem before3 (c : Dev nD) (d) : (dats m ρ 0 c).before (3 : Fin 5) t0_0 d = opE m c := by
  unfold Dat.before; rw [if_pos (fetched 3 rfl)]; exact read_blk3 (F := F) _

omit [FloatOps F] in
theorem windows (Φ : Fin cfg0.W → sProp 𝕄) :
    bigSep Finset.univ Φ = iprop(Φ (0 : Fin 5) ∗ Φ (1 : Fin 5) ∗ Φ (2 : Fin 5) ∗ Φ (3 : Fin 5) ∗ Φ (4 : Fin 5)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- Staging buffer `b` at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def pre (c : Dev nD) : sProp 𝕄 :=
  iprop((∃ K, start m K c) ∗ (dats m ρ 0 c).owesAt () t0_0.castSucc
    ∗ (∃ d, stg c cc0_stg0_0 ((dats m ρ 0 c).before (0 : Fin 5) t0_0 d)) ∗ (∃ d, stg c cc0_stg1_0 ((dats m ρ 0 c).before (1 : Fin 5) t0_0 d))
    ∗ (∃ d, stg c cc0_stg2_0 ((dats m ρ 0 c).before (2 : Fin 5) t0_0 d)) ∗ (∃ d, stg c cc0_stg3_0 ((dats m ρ 0 c).before (3 : Fin 5) t0_0 d))
    ∗ (∃ d, stg c cc0_stg4_0 ((dats m ρ 0 c).before (4 : Fin 5) t0_0 d)))
def post (c : Dev nD) : sProp 𝕄 :=
  iprop(finish c ∗ (dats m ρ 0 c).owesAt () t0_0.succ
    ∗ stg c cc0_stg0_0 (opX m c) ∗ stg c cc0_stg1_0 (opR m c) ∗ stg c cc0_stg2_0 (opI m c) ∗ stg c cc0_stg3_0 (opE m c)
    ∗ stg c cc0_stg4_0 (outAt m c))

set_option maxRecDepth 8000 in
theorem body_obligation (c : Dev nD) : BodyObligation (dats (F := F) m ρ 0 c) (defs₀ (F := F)) 𝒱₀ () Set.univ := fun t => by
  rw [fin_N0 t]
  rw [windows, windows]
  simp only [owns_whole_eq]
  show pre m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _) (Memref.whole cc0_scratch0) (Memref.isWhole_whole _)
      (Memref.whole cc0_scratch1) (Memref.isWhole_whole _) (Memref.whole cc0_scratch2) (Memref.isWhole_whole _)
      (Memref.whole cc0_scratch3) (Memref.isWhole_whole _) (Memref.whole cc0_scratch4) (Memref.isWhole_whole _)
      (Memref.whole cc0_scratch5) (Memref.isWhole_whole _) cc0_scratch6 cc0_scratch7) (fun _ => post m ρ c)
  unfold pre Dat.owesAt Pipeline.owesWithin
  simp only [before0, before1, before2, before3]
  iintro ⟨⟨%K, Hs⟩, ⟨%W, -, HO⟩, ⟨%d0, %f0, %h0, H0⟩, ⟨%d1, %f1, %h1, H1⟩, ⟨%d2, %f2, %h2, H2⟩, ⟨%d3, %f3, %h3, H3⟩, ⟨%d4, %f4, -, H4⟩⟩
  subst h0; subst h1; subst h2; subst h3
  iapply (body_run m K c fun _ => post m ρ c)
  isplitl
  · isplitl [Hs]; · iexact Hs
    isplitl [HO]
    · unfold owing; iexists W; iexact HO
    isplitr [H4]
    · unfold operands
      isplitl [H0]; · iexact H0
      isplitl [H1]; · iexact H1
      isplitl [H2]; · iexact H2
      iexact H3
    iexists f4; iexact H4
  iintro ⟨Hf, HO, Ho, H4⟩
  unfold operands owing post Dat.owesAt Pipeline.owesWithin
  icases HO with ⟨%W', HO⟩
  icases Ho with ⟨H0, H1, H2, H3⟩
  isplitl [Hf]; · iexact Hf
  isplitl [HO]
  · iexists W'
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  iexists _; isplitr; · (ipureintro; rfl)
  iexact H4

/-! ## Side conditions of the launch -/

theorem ownSemFacts : Pipeline.OwnSemFacts cfg0.spec osem := by decide

theorem share_eq (c : Dev nD) (w : Fin cfg0.W) : (dats m ρ 0 c).share w = fullShare := by unfold Dat.share; split <;> rfl

/-- What a device starts from, its buffers apart. -/
def ready₀ (c : Dev nD) : sProp 𝕄 :=
  iprop(settled m c ∗ levAts L lv ∗ cred (tallyAt (barCell c) () 3)
    ∗ bigSep Finset.univ fun s : Fin 3 => bigSep Finset.univ fun r : Fin 3 => cred (tallyAt (recvCell c s r) () (amt s r)))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ settled m c)
      ⊢ |={Set.univ}=> iprop(ready₀ m c ∗ emp) := by
  iintro ⟨-, Hlev, Hcr, -, HG⟩
  ihave Hc := (creds (F := F) c) $$ Hcr
  imodintro
  unfold ready₀
  isplitl
  · isplitl [HG]; · iexact HG
    isplitl [Hlev]; · iexact Hlev
    iexact Hc
  · iempintro

/-- A whole buffer at some contents. -/
abbrev held (c : Dev nD) (b : Ref sig .tc) : sProp 𝕄 :=
  iprop(∃ f : Buf (Elt F) ((c : Thread nD τ).loc b), ((c : Thread nD τ).loc b) ↦{fullShare} f)

/-- Stripe `s`'s three slots, sent or received. -/
abbrev slots3 (c : Dev nD) {s : Fin 3} (M : Memref sig .tc .vmem (Buf3 s) .bf16) : sProp 𝕄 :=
  bigSep Finset.univ fun r : Fin 3 => slotAny c (slotOf M r)

omit [FloatOps F] in
/-- The six buffers are the slots of the three stripes, sent and received. -/
theorem slots_of_buffers (c : Dev nD) :
    (Pipeline.scopedRest (Ix := Unit) (Name := ℕ) (U := UU) (Lvl := ℕ) (Val := Elt F) cfg0.spec c : sProp 𝕄)
      ⊢ iprop((bigSep Finset.univ fun s : Fin 3 => bigSep Finset.univ fun r : Fin 3 => slotAny c (sslot s r))
        ∗ bigSep Finset.univ fun s : Fin 3 => bigSep Finset.univ fun r : Fin 3 => slotAny c (rslot s r)) := by
  rw [bigSep_fin3 (fun s : Fin 3 => bigSep Finset.univ fun r : Fin 3 => slotAny c (sslot s r)),
    bigSep_fin3 (fun s : Fin 3 => bigSep Finset.univ fun r : Fin 3 => slotAny c (rslot s r))]
  rw [show (Pipeline.scopedRest (Ix := Unit) (Name := ℕ) (U := UU) (Lvl := ℕ) (Val := Elt F) cfg0.spec c : sProp 𝕄)
    = iprop(held c cc0_scratch0 ∗ held c cc0_scratch1 ∗ held c cc0_scratch2 ∗ held c cc0_scratch3 ∗ held c cc0_scratch4 ∗ held c cc0_scratch5) from scopedRest0_eq c]
  show _ ⊢ iprop((slots3 c (sbuf 0) ∗ slots3 c (sbuf 1) ∗ slots3 c (sbuf 2)) ∗ slots3 c (rbuf 0) ∗ slots3 c (rbuf 1) ∗ slots3 c (rbuf 2))
  iintro ⟨H0, H1, H2, H3, H4, H5⟩
  ihave H0 := (show (held c cc0_scratch0 : sProp 𝕄) ⊢ slots3 c (sbuf 0) from buf_split c (sbuf 0) (sbuf_set 0)) $$ H0
  ihave H1 := (show (held c cc0_scratch1 : sProp 𝕄) ⊢ slots3 c (sbuf 1) from buf_split c (sbuf 1) (sbuf_set 1)) $$ H1
  ihave H2 := (show (held c cc0_scratch2 : sProp 𝕄) ⊢ slots3 c (sbuf 2) from buf_split c (sbuf 2) (sbuf_set 2)) $$ H2
  ihave H3 := (show (held c cc0_scratch3 : sProp 𝕄) ⊢ slots3 c (rbuf 0) from buf_split c (rbuf 0) (rbuf_set 0)) $$ H3
  ihave H4 := (show (held c cc0_scratch4 : sProp 𝕄) ⊢ slots3 c (rbuf 1) from buf_split c (rbuf 1) (rbuf_set 1)) $$ H4
  ihave H5 := (show (held c cc0_scratch5 : sProp 𝕄) ⊢ slots3 c (rbuf 2) from buf_split c (rbuf 2) (rbuf_set 2)) $$ H5
  isplitl [H0 H1 H2]
  · isplitl [H0]; · iexact H0
    isplitl [H1]; · iexact H1
    iexact H2
  isplitl [H3]; · iexact H3
  isplitl [H4]; · iexact H4
  iexact H5

omit [FloatOps F] in
theorem buffers_of_slots (c : Dev nD) :
    iprop((bigSep Finset.univ fun s : Fin 3 => bigSep Finset.univ fun r : Fin 3 => slotAny c (sslot s r))
        ∗ bigSep Finset.univ fun s : Fin 3 => bigSep Finset.univ fun r : Fin 3 => slotAny c (rslot s r))
      ⊢ (Pipeline.scopedRest (Ix := Unit) (Name := ℕ) (U := UU) (Lvl := ℕ) (Val := Elt F) cfg0.spec c : sProp 𝕄) := by
  rw [bigSep_fin3 (fun s : Fin 3 => bigSep Finset.univ fun r : Fin 3 => slotAny c (sslot s r)),
    bigSep_fin3 (fun s : Fin 3 => bigSep Finset.univ fun r : Fin 3 => slotAny c (rslot s r))]
  rw [show (Pipeline.scopedRest (Ix := Unit) (Name := ℕ) (U := UU) (Lvl := ℕ) (Val := Elt F) cfg0.spec c : sProp 𝕄)
    = iprop(held c cc0_scratch0 ∗ held c cc0_scratch1 ∗ held c cc0_scratch2 ∗ held c cc0_scratch3 ∗ held c cc0_scratch4 ∗ held c cc0_scratch5) from scopedRest0_eq c]
  show iprop((slots3 c (sbuf 0) ∗ slots3 c (sbuf 1) ∗ slots3 c (sbuf 2)) ∗ slots3 c (rbuf 0) ∗ slots3 c (rbuf 1) ∗ slots3 c (rbuf 2)) ⊢ _
  iintro ⟨⟨H0, H1, H2⟩, H3, H4, H5⟩
  ihave H0 := (show slots3 c (sbuf 0) ⊢ (held c cc0_scratch0 : sProp 𝕄) from buf_join c (sbuf 0) (sbuf_set 0)) $$ H0
  ihave H1 := (show slots3 c (sbuf 1) ⊢ (held c cc0_scratch1 : sProp 𝕄) from buf_join c (sbuf 1) (sbuf_set 1)) $$ H1
  ihave H2 := (show slots3 c (sbuf 2) ⊢ (held c cc0_scratch2 : sProp 𝕄) from buf_join c (sbuf 2) (sbuf_set 2)) $$ H2
  ihave H3 := (show slots3 c (rbuf 0) ⊢ (held c cc0_scratch3 : sProp 𝕄) from buf_join c (rbuf 0) (rbuf_set 0)) $$ H3
  ihave H4 := (show slots3 c (rbuf 1) ⊢ (held c cc0_scratch4 : sProp 𝕄) from buf_join c (rbuf 1) (rbuf_set 1)) $$ H4
  ihave H5 := (show slots3 c (rbuf 2) ⊢ (held c cc0_scratch5 : sProp 𝕄) from buf_join c (rbuf 2) (rbuf_set 2)) $$ H5
  isplitl [H0]; · iexact H0
  isplitl [H1]; · iexact H1
  isplitl [H2]; · iexact H2
  isplitl [H3]; · iexact H3
  isplitl [H4]; · iexact H4
  iexact H5

theorem enter (c : Dev nD) :
    iprop(ready₀ m c ∗ Pipeline.prefHeld Pipeline.Prefetch.none c (fun _ => fullShare.right) (fun k => k.elim0) ∗ Pipeline.scopedRest cfg0.spec c)
      ⊢ (dats m ρ 0 c).Φ 0 := by
  show _ ⊢ iprop(∃ K, start m K c)
  unfold ready₀ settled mine payable start greet ready
  rw [cell_grid, own_grid,
    bigSep_univ_prod (fun p : Fin 3 × Fin 3 => iprop(dutyTok ER (sendCell c p.1 p.2) 0 0 ∗ dutyTok ER (recvCell (peer (p.1 + p.2) c) p.1 p.2) 0 0))]
  simp only [bigSep_sep']
  iintro ⟨⟨⟨%K, HR, ⟨Hb, Ha1, Ha2⟩, Htb, Ht1, Ht2⟩, Hlev, Hcb, Hcr⟩, -, Hbuf⟩
  ihave Hsl := (slots_of_buffers (F := F) c) $$ Hbuf
  icases Hsl with ⟨Hss, Hrs⟩
  iexists K
  isplitl [HR]; · iexact HR
  isplitl [Hlev]; · iexact Hlev
  isplitl [Hb Hcb Htb Hrs]
  · isplitl [Hb]; · iexact Hb
    isplitl [Hcb]; · iexact Hcb
    isplitl [Htb] <;> iassumption
  isplitl [Ha1]; · iexact Ha1
  isplitl [Ha2]; · iexact Ha2
  isplitl [Ht1]; · iexact Ht1
  isplitl [Ht2]; · iexact Ht2
  isplitl [Hcr]; · iexact Hcr
  iexact Hss

theorem leave (c : Dev nD) :
    (dats m ρ 0 c).Φ (Fin.last cfg0.N) ⊢ iprop(unscopedSems0 c ∗ Pipeline.ownSems0 osem c ∗ Pipeline.scopedRest cfg0.spec c) := by
  show (finish c : sProp 𝕄) ⊢ _
  rw [unscopedSems0_eq, ownSems0_eq, own_grid]
  unfold finish done
  simp only [bigSep_sep']
  iintro ⟨Hb, Hs, Hr, Hz1, Hz2⟩
  isplitl [Hb]; · iexact Hb
  isplitl [Hz1 Hz2]
  · isplitl [Hz1] <;> iassumption
  iapply (buffers_of_slots (F := F) c)
  isplitl [Hs] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- Every device's arrays at the end. -/
def Ends : PUnit × MemSt nD τ sig (Elt F) → Prop := fun r =>
  ∀ c : Dev nD, ∀ w : Fin cfg0.W, r.2.mem ((cfg0.win w).arr.view.loc (c : Thread nD τ)) = (dats m ρ 0 c).arrAt w cfg0.N

set_option maxRecDepth 8000 in
theorem run_main : θ_run defs (onTc (τ := τ) (main (F := F))) (s₀ m ρ) (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := given m) (G' := settled m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := settle m)
    (hA := fun _ _ => rfl) (hpf := fun _ k => k.elim0)
    (X := ready₀ m) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The arrays at the end -/

theorem end_in (c : Dev nD) (w : Fin 5) (h : (cfg0.win w).isOut = false) :
    (dats m ρ 0 c).arrAt w cfg0.N = m ((cfg0.win w).arr.view.loc (c : Thread nD τ)) :=
  (dats (F := F) m ρ 0 c).arrAt_in w h _

theorem end_out (c : Dev nD) : (dats m ρ 0 c).arrAt (4 : Fin 5) cfg0.N = outAt m c := by
  have h : (win0_4.blk t0_0).view.read (Elt F) ((dats m ρ 0 c).arrAt (4 : Fin 5) cfg0.N) = outAt m c := by
    rw [show cfg0.N = t0_0.val + 1 from rfl, (dats m ρ 0 c).arrAt_succ (4 : Fin 5) t0_0]
    rw [show (cfg0.win (4 : Fin 5)).flush t0_0 = true from by decide, if_pos rfl]
    exact View.read_write_univ _ _
  rwa [read_blk4 (F := F)] at h

/-- Every device ends with its operands as they were and its result at the stripes' sums, and every counter at zero. -/
theorem run_ends : θ_run defs (onTc (τ := τ) (main (F := F))) (s₀ m ρ) (fun r =>
    (∀ c : Dev nD, r.2.mem ((c : Thread nD τ).loc main_v1) = outAt m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  (θ_run defs _ _).mono (fun _ h => ⟨fun c => ⟨(h.1 c (4 : Fin 5)).trans (end_out m ρ c), (h.1 c (0 : Fin 5)).trans (end_in m ρ c 0 rfl),
    (h.1 c (1 : Fin 5)).trans (end_in m ρ c 1 rfl), (h.1 c (2 : Fin 5)).trans (end_in m ρ c 2 rfl), (h.1 c (3 : Fin 5)).trans (end_in m ρ c 3 rfl)⟩, h.2⟩)
    (run_main m ρ)

end Cert.Butterfly

end
-- ==== Proof.Frames.lean ====
/-
# The runs' frames

Each program runs to its end, leaves its arguments as they were and every counter at zero: the kernel by the mesh's run at the
machine's own floats, its ideal reading by the same run at the extended reals, the reference by its host operations' run.
-/
module

public import proofs.«01_k».proof.Defs
public import proofs.«01_k».proof.Proof.Run
public import proofs.«01_k».proof.Proof.Gen.Kernel
public import proofs.«01_k».proof.Proof.Gen.Kernel.Skeleton
public import proofs.«01_k».proof.Proof.Gen.ReferenceIdeal.Run

@[expose] public section

noncomputable section

namespace Cert.Butterfly

open Idealize.ShloMosaic Idealize.SL.Sem

/-- The mesh's run over any floats, its result left unread. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0) :=
  (θ_run Cert.KernelIdeal.defs _ _).mono (fun _ h => ⟨fun c => (h.1 c).2, h.2⟩) (run_ends m ρ)

/-! ## The two printed texts are one -/

theorem body_eq {F : FTy → Type} [FloatOps F] : @Cert.Kernel.cc0_body F _ _ = @Cert.KernelIdeal.cc0_body F _ _ := by
  unfold Cert.Kernel.cc0_body Cert.KernelIdeal.cc0_body
  with_unfolding_all rfl

theorem bodies_eq {F : FTy → Type} [FloatOps F] : Cert.Kernel.defs₀ (F := F) = Cert.KernelIdeal.defs₀ (F := F) := by
  unfold Cert.Kernel.defs₀ Cert.KernelIdeal.defs₀
  refine congrArg Defs.onTc (funext fun l => funext fun a => ?_)
  match l, a with
  | ⟨0, _⟩, (t, s) =>
    show Cert.Kernel.cc0_body _ _ _ _ _ _ _ _ _ _ _ _ _ _ _ _ _ _ _ _ _ _ _ _ = _
    rw [body_eq]

theorem defs_eq {F : FTy → Type} [FloatOps F] : Cert.Kernel.defs (F := F) = Cert.KernelIdeal.defs (F := F) := by
  unfold Cert.Kernel.defs Cert.KernelIdeal.defs
  exact congrArg _ bodies_eq

/-- The kernel at the machine's own floats. -/
theorem frame_kernel : Cert.quiescent_Kernel := fun m ρ _ => by
  rw [defs_eq]
  exact frame_any (F := Bits) m ρ

/-- The kernel over the extended reals. -/
theorem frame_kernelIdeal : Cert.quiescent_KernelIdeal := fun m ρ _ => frame_any (F := Ideal) m ρ

/-- The reference over the extended reals; it declares no counter. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Butterfly

end
-- ==== Proof.Mixture.lean ====
/-
# The mixture of experts, in plain mathematics

What the program computes, over the extended reals: each token's routing probabilities over the sixteen experts,
and its result, the rows of the two experts it names, weighted by their shares of the two probabilities. And the
one fact about it the distributed program rests on: the mixture is a sum over all sixteen experts, in which an
expert the token does not name has weight zero.
-/
module

public import Idealize.ShloMosaic.Lib.Pointwise

@[expose] public section

noncomputable section

namespace Cert.Butterfly

open Idealize.ShloMosaic

variable (X : Fin 512 → Fin 256 → EReal) (R : Fin 256 → Fin 16 → EReal) (W : Fin 16 → Fin 256 → Fin 512 → EReal)

/-- Token `i`'s score for expert `e`, -/
def score (i : Fin 512) (e : Fin 16) : EReal := ∑ k, X i k * R k e
/-- its largest score, -/
def top (i : Fin 512) : EReal := Finset.fold max (Ideal.ofBits .f32 0xFF800000#32) (fun e => score X R i e) Finset.univ
/-- and its probability of expert `e`. -/
def prob (i : Fin 512) (e : Fin 16) : EReal :=
  Ideal.div (Ideal.exp (score X R i e - top X R i)) (∑ g, Ideal.exp (score X R i g - top X R i))

/-- Column `l` of expert `e`'s row for token `i`. -/
def product (i : Fin 512) (e : Fin 16) (l : Fin 512) : EReal := ∑ k, X i k * W e k l

/-- The weight of expert `e` for a token that names `a` and `b`, `p` its probabilities. -/
def weight (p : Fin 16 → EReal) (a b e : Fin 16) : EReal := if a = e ∨ b = e then Ideal.div (p e) (p a + p b) else 0

/-- The result at (`i`, `l`), `t` and `u` the experts the tokens name. -/
def mixture (t u : Fin 512 → Fin 16) (i l : Fin 512) : EReal :=
  Ideal.div (prob X R i (t i)) (prob X R i (t i) + prob X R i (u i)) * product X W i (t i) l
    + Ideal.div (prob X R i (u i)) (prob X R i (t i) + prob X R i (u i)) * product X W i (u i) l

/-- A sum over all experts by these weights is the two named experts' terms. -/
theorem sum_weight (p y : Fin 16 → EReal) {a b : Fin 16} (hab : a ≠ b) :
    ∑ e, weight p a b e * y e = Ideal.div (p a) (p a + p b) * y a + Ideal.div (p b) (p a + p b) * y b := by
  have h : ∀ e, weight p a b e * y e
      = (if a = e then Ideal.div (p a) (p a + p b) * y a else 0) + (if b = e then Ideal.div (p b) (p a + p b) * y b else 0) := by
    intro e
    unfold weight
    by_cases h1 : a = e
    · subst h1
      rw [if_pos (Or.inl rfl), if_pos rfl, if_neg (Ne.symm hab), add_zero]
    · by_cases h2 : b = e
      · subst h2
        rw [if_pos (Or.inr rfl), if_neg h1, if_pos rfl, zero_add]
      · rw [if_neg (not_or.2 ⟨h1, h2⟩), if_neg h1, if_neg h2, zero_mul, add_zero]
  rw [Finset.sum_congr rfl fun e _ => h e, Finset.sum_add_distrib, Finset.sum_ite_eq, Finset.sum_ite_eq,
    if_pos (Finset.mem_univ _), if_pos (Finset.mem_univ _)]

/-- Device `d`'s expert `j` among the sixteen. -/
def expertOf (d : Fin 8) (j : Fin 2) : Fin 16 := ⟨2 * d.val + j.val, by omega⟩

/-- Summing the devices' two experts is summing the sixteen. -/
theorem sum_devices (f : Fin 16 → EReal) : ∑ d : Fin 8, (f (expertOf d 0) + f (expertOf d 1)) = ∑ e, f e := by
  have h : ∀ d : Fin 8, f (expertOf d 0) + f (expertOf d 1) = ∑ j : Fin 2, f (finProdFinEquiv (d, j)) := by
    intro d
    rw [Fin.sum_univ_two]
    refine congrArg₂ (· + ·) (congrArg f (Fin.ext ?_)) (congrArg f (Fin.ext ?_))
    · show 2 * d.val + 0 = 0 + 2 * d.val; omega
    · show 2 * d.val + 1 = 1 + 2 * d.val; omega
  rw [Finset.sum_congr rfl fun d _ => h d, ← Fintype.sum_prod_type', finProdFinEquiv.sum_comp]

end Cert.Butterfly

end
-- ==== Proof.Share.lean ====
/-
# What a device's share holds

Read at a row and a column: a device's share of the result is its two experts' rows for the token, each with the
expert's weight, which is zero where the token does not name the expert.
-/
module

public import proofs.«01_k».proof.Proof.Blocks
public import proofs.«01_k».proof.Proof.Mixture

@[expose] public section

set_option maxRecDepth 16384

noncomputable section

namespace Cert.Butterfly

open Cert.KernelIdeal Cert.KernelIdeal.Gen
open Idealize.ShloMosaic Idealize.ShloMosaic.TcCoe Idealize.SL.Sem

/-! ## Words -/

/-- A choice by the equality of two experts' words is a choice by the experts. -/
theorem select_word {α : Type} (a b : Fin 16) (x y : α) :
    Scalar.select (IntOp.cmpi .eq (BitVec.ofNat 32 a.val) (BitVec.ofNat 32 b.val)) x y = if a = b then x else y := by
  have h : IntOp.cmpi .eq (BitVec.ofNat 32 a.val) (BitVec.ofNat 32 b.val) = BitVec.ofBool (decide (a = b)) := by
    revert a b; decide +kernel
  rw [h]
  by_cases e : a = b
  · rw [if_pos e, decide_eq_true e]; rfl
  · rw [if_neg e, decide_eq_false e]; rfl

/-- The same of either of two equalities. -/
theorem select_words {α : Type} (a b e : Fin 16) (x y : α) :
    Scalar.select (IntOp.ori (IntOp.cmpi .eq (BitVec.ofNat 32 a.val) (BitVec.ofNat 32 e.val))
      (IntOp.cmpi .eq (BitVec.ofNat 32 b.val) (BitVec.ofNat 32 e.val))) x y = if a = e ∨ b = e then x else y := by
  have h : ∀ a b e : Fin 16, IntOp.ori (IntOp.cmpi .eq (BitVec.ofNat 32 a.val) (BitVec.ofNat 32 e.val))
      (IntOp.cmpi .eq (BitVec.ofNat 32 b.val) (BitVec.ofNat 32 e.val)) = BitVec.ofBool (decide (a = e ∨ b = e)) := by
    decide +kernel
  rw [h]
  by_cases c : a = e ∨ b = e
  · rw [if_pos c, decide_eq_true c]; rfl
  · rw [if_neg c, decide_eq_false c]; rfl

/-- Picking an expert's entry by a one-hot sum. -/
theorem sum_word (e : Fin 16) (p : Fin 16 → EReal) :
    ∑ x : Fin 16, Scalar.select (IntOp.cmpi .eq (BitVec.ofNat 32 x.val) (BitVec.ofNat 32 e.val)) (p x) 0 = p e := by
  rw [Finset.sum_congr rfl fun x _ => select_word x e (p x) 0, Finset.sum_ite_eq', if_pos (Finset.mem_univ _)]

/-- The words the kernel computes for a device's two experts. -/
theorem word0 : ∀ c : Dev nD, Scalar.addi (Scalar.muli (devWord c) 2#32) 0#32 = BitVec.ofNat 32 (expertOf c 0).val := by decide +kernel
theorem word1 : ∀ c : Dev nD, Scalar.addi (Scalar.muli (devWord c) 2#32) 1#32 = BitVec.ofNat 32 (expertOf c 1).val := by decide +kernel

/-! ## The operands -/

variable (m : (ℓ : Loc nD τ sig) → Buf (Elt Ideal) ℓ)
variable (X : Fin 512 → Fin 256 → EReal) (R : Fin 256 → Fin 16 → EReal) (W : Fin 16 → Fin 256 → Fin 512 → EReal)
variable (t u : Fin 512 → Fin 16)

/-- The devices hold the tokens `X`, the router `R`, the experts named `t` and `u`, and two experts of `W` each. -/
structure Holds : Prop where
  x : ∀ c i k, opX m c (ix2 i k) = X i k
  r : ∀ c k e, opR m c (ix2 k e) = R k e
  t : ∀ c i, opI m c (ix2 i 0) = BitVec.ofNat 32 (t i).val
  u : ∀ c i, opI m c (ix2 i 1) = BitVec.ofNat 32 (u i).val
  w : ∀ c j k l, opE m c (ix3 j k l) = W (expertOf c j) k l

variable {m X R W t u}

/-- A rectangle's coordinate on an axis it covers from the start. -/
theorem start_add (n : ℕ) : 0 + 1 * n = n := by omega

theorem Holds.col0 (h : Holds m X R W t u) (c : Dev nD) (i : Fin 512) : Butterfly.col0 m c (ix2 i 0) = BitVec.ofNat 32 (t i).val := by
  rw [← h.t c i]
  exact congrArg (opI m c) (funext fun a => Fin.ext (match a with
    | ⟨0, _⟩ => start_add i.val
    | ⟨1, _⟩ => rfl))

theorem Holds.col1 (h : Holds m X R W t u) (c : Dev nD) (i : Fin 512) : Butterfly.col1 m c (ix2 i 0) = BitVec.ofNat 32 (u i).val := by
  rw [← h.u c i]
  exact congrArg (opI m c) (funext fun a => Fin.ext (match a with
    | ⟨0, _⟩ => start_add i.val
    | ⟨1, _⟩ => rfl))

theorem Holds.exp0 (h : Holds m X R W t u) (c : Dev nD) (k : Fin 256) (l : Fin 512) : Butterfly.exp0 m c (ix3 0 k l) = W (expertOf c 0) k l := by
  rw [← h.w c 0 k l]
  exact congrArg (opE m c) (funext fun a => Fin.ext (match a with
    | ⟨0, _⟩ => rfl
    | ⟨1, _⟩ => start_add k.val
    | ⟨2, _⟩ => start_add l.val))

theorem Holds.exp1 (h : Holds m X R W t u) (c : Dev nD) (k : Fin 256) (l : Fin 512) : Butterfly.exp1 m c (ix3 0 k l) = W (expertOf c 1) k l := by
  rw [← h.w c 1 k l]
  exact congrArg (opE m c) (funext fun a => Fin.ext (match a with
    | ⟨0, _⟩ => rfl
    | ⟨1, _⟩ => start_add k.val
    | ⟨2, _⟩ => start_add l.val))

/-! ## Probabilities and weights -/

theorem Holds.probs (h : Holds m X R W t u) (c : Dev nD) (i : Fin 512) (e : Fin 16) : Butterfly.probs m c (ix2 i e) = prob X R i e := by
  unfold Butterfly.probs
  pointwise [k0_pay2, k0_pay1]
  simp only [h.x, h.r]
  rfl

theorem Holds.wt0 (h : Holds m X R W t u) (c : Dev nD) (i : Fin 512) :
    Butterfly.wt0 m c (ix2 i 0) = weight (prob X R i) (t i) (u i) (expertOf c 0) := by
  unfold Butterfly.wt0
  pointwise [k0_pay6, k0_pay5, k0_pay4, k0_pay3]
  simp only [h.probs, h.col0, h.col1, word0, select_words, sum_word]
  rfl

theorem Holds.wt1 (h : Holds m X R W t u) (c : Dev nD) (i : Fin 512) :
    Butterfly.wt1 m c (ix2 i 0) = weight (prob X R i) (t i) (u i) (expertOf c 1) := by
  unfold Butterfly.wt1 Butterfly.hit1 Butterfly.frac1
  pointwise [k0_pay9, k0_pay8, k0_pay7, k0_pay5, k0_pay4, k0_pay3]
  simp only [h.probs, h.col0, h.col1, word1, select_words, sum_word]
  rfl

/-! ## The share -/

/-- Device `c`'s share at token `i`, column `l`. -/
def share (X : Fin 512 → Fin 256 → EReal) (R : Fin 256 → Fin 16 → EReal) (W : Fin 16 → Fin 256 → Fin 512 → EReal)
    (t u : Fin 512 → Fin 16) (c : Dev nD) (i l : Fin 512) : EReal :=
  weight (prob X R i) (t i) (u i) (expertOf c 0) * product X W i (expertOf c 0) l
    + weight (prob X R i) (t i) (u i) (expertOf c 1) * product X W i (expertOf c 1) l

theorem Holds.stripe0 (h : Holds m X R W t u) (c : Dev nD) (i : Fin 176) (l : Fin 512) :
    acc0 m c 0 (ix2 i l) = share X R W t u c ⟨i.val, by omega⟩ l := by
  have e : k0_pay9 (hit1 m c) (frac1 m c) = Butterfly.wt1 m c := rfl
  show k0_pay12 _ _ _ _ _ _ (ix2 i l) = _
  unfold k0_pay12
  rw [e]
  pointwise [k0_pay11, k0_pay10, k0_pay1]
  simp only [h.wt0, h.wt1, h.x, h.exp0, h.exp1]
  rfl

theorem Holds.stripe1 (h : Holds m X R W t u) (c : Dev nD) (i : Fin 168) (l : Fin 512) :
    acc0 m c 1 (ix2 i l) = share X R W t u c ⟨176 + i.val, by omega⟩ l := by
  show k0_pay14 _ _ _ _ _ (ix2 i l) = _
  pointwise [k0_pay14, k0_pay11, k0_pay10, k0_pay1]
  simp only [h.wt0, h.wt1, h.x, h.exp0, h.exp1]
  rfl

theorem Holds.stripe2 (h : Holds m X R W t u) (c : Dev nD) (i : Fin 168) (l : Fin 512) :
    acc0 m c 2 (ix2 i l) = share X R W t u c ⟨344 + i.val, by omega⟩ l := by
  show k0_pay19 _ _ _ (ix2 i l) = _
  pointwise [k0_pay19, k0_pay18, k0_pay17, k0_pay16, k0_pay11, k0_pay10, k0_pay1]
  simp only [h.wt0, h.wt1, h.x, h.exp0, h.exp1]
  rfl

end Cert.Butterfly

end
-- ==== Proof.Total.lean ====
/-
# The exchange adds the shares

After the three rounds every device holds, in every stripe, the sum of the eight devices' shares.
-/
module

public import proofs.«01_k».proof.Proof.Share

@[expose] public section

noncomputable section

namespace Cert.Butterfly

open Cert.KernelIdeal Cert.KernelIdeal.Gen
open Idealize.ShloMosaic Idealize.ShloMosaic.TcCoe Idealize.SL.Sem

/-- What three rounds of pairwise addition make of the devices' numbers: partner `s` is met first, then `s + 1`, then `s + 2`. -/
theorem sum_rounds (f : Dev nD → EReal) (s : Fin 3) (c : Dev nD) :
    f c + f (peer s c) + (f (peer (s + 1) c) + f (peer s (peer (s + 1) c)))
        + (f (peer (s + 2) c) + f (peer s (peer (s + 2) c))
          + (f (peer (s + 1) (peer (s + 2) c)) + f (peer s (peer (s + 1) (peer (s + 2) c)))))
      = ∑ d, f d := by
  let g : Fin 8 → Dev nD := ![c, peer s c, peer (s + 1) c, peer s (peer (s + 1) c), peer (s + 2) c, peer s (peer (s + 2) c),
    peer (s + 1) (peer (s + 2) c), peer s (peer (s + 1) (peer (s + 2) c))]
  have hg : Function.Bijective g := by
    revert s c; decide +kernel
  rw [← Equiv.sum_comp (Equiv.ofBijective g hg) f, Fin.sum_univ_eight]
  show _ = f c + f (peer s c) + f (peer (s + 1) c) + f (peer s (peer (s + 1) c)) + f (peer (s + 2) c) + f (peer s (peer (s + 2) c))
    + f (peer (s + 1) (peer (s + 2) c)) + f (peer s (peer (s + 1) (peer (s + 2) c)))
  simp only [add_assoc]

variable (m : (ℓ : Loc nD τ sig) → Buf (Elt Ideal) ℓ)

/-- A round adds the partner's sum, element by element. -/
theorem acc_step (s : Fin 3) (r : ℕ) (c : Dev nD) (j : (Mat s).Idx) :
    (acc m s (r + 1) c j : EReal) = acc m s r c j + acc m s r (peer (s + Fin.ofNat 3 r) c) j := rfl

/-- The result of the exchange is the sum of the shares. -/
theorem acc_total (s : Fin 3) (c : Dev nD) (j : (Mat s).Idx) : (acc m s 3 c j : EReal) = ∑ d, acc0 m d s j := by
  have h0 : s + Fin.ofNat 3 0 = s := add_zero s
  rw [← sum_rounds (fun d => acc0 m d s j) s c]
  simp only [acc_step, h0]
  rfl

variable {m} {X : Fin 512 → Fin 256 → EReal} {R : Fin 256 → Fin 16 → EReal} {W : Fin 16 → Fin 256 → Fin 512 → EReal}
variable {t u : Fin 512 → Fin 16}

/-- The sum of the shares is the mixture. -/
theorem sum_share (htu : ∀ i, t i ≠ u i) (i l : Fin 512) : ∑ d, share X R W t u d i l = mixture X R W t u i l := by
  unfold share
  rw [sum_devices fun e => weight (prob X R i) (t i) (u i) e * product X W i e l]
  exact sum_weight (prob X R i) (fun e => product X W i e l) (htu i)

/-- What every device ends with is the mixture. -/
theorem outAt_eq (h : Holds m X R W t u) (htu : ∀ i, t i ≠ u i) (c : Dev nD) (i l : Fin 512) :
    outAt m c (ix2 i l) = mixture X R W t u i l := by
  have hi := i.isLt
  rw [← sum_share htu]
  by_cases h0 : i.val < 176
  · refine (dif_pos h0).trans ((acc_total m 0 c _).trans (Finset.sum_congr rfl fun d _ => ?_))
    exact h.stripe0 d ⟨i.val, h0⟩ l
  · by_cases h1 : i.val < 344
    · refine (dif_neg h0).trans ((dif_pos h1).trans ((acc_total m 1 c _).trans (Finset.sum_congr rfl fun d _ => ?_)))
      refine (h.stripe1 d ⟨i.val - 176, by omega⟩ l).trans (congrArg (fun k => share X R W t u d k l) (Fin.ext ?_))
      show 176 + (i.val - 176) = i.val
      omega
    · refine (dif_neg h0).trans ((dif_neg h1).trans ((acc_total m 2 c _).trans (Finset.sum_congr rfl fun d _ => ?_)))
      refine (h.stripe2 d ⟨i.val - 344, by omega⟩ l).trans (congrArg (fun k => share X R W t u d k l) (Fin.ext ?_))
      show 344 + (i.val - 344) = i.val
      omega

end Cert.Butterfly

end
-- ==== Proof.Routes.lean ====
/-
# The precondition, decoded

The precondition of the value claim, read as mathematics: every token names two different experts among the sixteen.
-/
module

public import proofs.«01_k».proof.Proof.Gen.Pre_two_experts_KernelIdeal
public import Idealize.ShloMosaic.Lib.Pointwise
public import Idealize.ShloMosaic.Lib.Affine

@[expose] public section

noncomputable section

namespace Cert.Butterfly

open Idealize.ShloMosaic
open Cert.Pre_two_experts_KernelIdeal Cert.Pre_two_experts_KernelIdeal.Gen

/-- What one element of the precondition says of its index word and of its row's two index words. -/
theorem pre_apply {X : FVec Ideal S512x256 .bf16} {R : FVec Ideal S256x16 .bf16} {I : IVec S512x2 32}
    {W : FVec Ideal S2x256x512 .bf16} (h : fn (F := Ideal) X R I W = fun _ => 1#1) (i : Fin 512) (j : Fin 2) :
    (I (ix2 i j)).toNat < 16 ∧ I (ix2 i 0) ≠ I (ix2 i 1) := by
  have h' := congrFun h (ix2 i j)
  pointwise [fn] at h'
  obtain ⟨h12, h3⟩ := IntOp.andi_eq_one.1 h'
  obtain ⟨h1, h2⟩ := IntOp.andi_eq_one.1 h12
  refine ⟨?_, IntOp.cmpi_ne.1 h3⟩
  have g1 : (0 : ℤ) ≤ (I (ix2 i j)).toInt := IntOp.cmpi_sge.1 h1
  have g2 : (I (ix2 i j)).toInt < 16 := IntOp.cmpi_slt.1 h2
  have hb := (I (ix2 i j)).isLt
  rw [BitVec.toInt_eq_toNat_cond] at g1 g2
  split at g1 <;> omega

/-- The expert a token names in column `j`. -/
def named (I : IVec S512x2 32) (j : Fin 2) (i : Fin 512) : Fin 16 := ⟨(I (ix2 i j)).toNat % 16, Nat.mod_lt _ (by decide)⟩

variable {X : FVec Ideal S512x256 .bf16} {R : FVec Ideal S256x16 .bf16} {I : IVec S512x2 32} {W : FVec Ideal S2x256x512 .bf16}

/-- Under the precondition each index word is the named expert's, -/
theorem named_word (h : fn (F := Ideal) X R I W = fun _ => 1#1) (j : Fin 2) (i : Fin 512) :
    I (ix2 i j) = BitVec.ofNat 32 (named I j i).val := by
  have hlt := (pre_apply h i j).1
  apply BitVec.eq_of_toNat_eq
  rw [BitVec.toNat_ofNat]
  show _ = (I (ix2 i j)).toNat % 16 % 2 ^ 32
  omega

/-- and the two named experts differ. -/
theorem named_ne (h : fn (F := Ideal) X R I W = fun _ => 1#1) (i : Fin 512) : named I 0 i ≠ named I 1 i := fun e =>
  (pre_apply h i 0).2 (by rw [named_word h 0 i, named_word h 1 i, e])

end Cert.Butterfly

end
-- ==== Proof.Gather.lean ====
/-
# Rows picked by a pair of indices

The reference picks entries of a table by a pair of index words, one pair per token. Where both words name rows
and columns that exist, the entry picked is the table's entry there.
-/
module

public import proofs.«01_k».proof.Proof.Gen.ReferenceIdeal
public import Idealize.ShloMosaic.Lib.Pointwise
public import Idealize.ShloMosaic.Lib.StableHlo.Predicate

@[expose] public section

noncomputable section

namespace Cert.Butterfly

open Cert.ReferenceIdeal Cert.ReferenceIdeal.Gen
open Idealize.ShloMosaic

/-- A word that holds a number below an extent, read as a start coordinate, is that number. -/
theorem start_of_word {n N : ℕ} (hn : n < N) (hN : N < 2 ^ 31) : min (BitVec.ofNat 32 n).toInt.toNat (N - 1) = n := by
  rw [StableHlo.Predicate.toInt_ofNat_small n (by omega)]
  show min n (N - 1) = n
  omega

/-- Token `i`'s entry of a 512 × 16 table, at the pair of words (`a`, `b`). -/
theorem pick_entry {α : Type} (v : S512x16.Idx → α) (idx : IVec S512x2 32) (i a : Fin 512) (b : Fin 16)
    (ha : idx (ix2 i 0) = BitVec.ofNat 32 a.val) (hb : idx (ix2 i 1) = BitVec.ofNat 32 b.val) :
    Host.gather gather_S512x16_S512x2_S512_n_01_n_n_01_1_11 v idx (ix1 i) = v (ix2 a b) := by
  unfold Host.gather
  refine congrArg v (funext fun k => Fin.ext ?_)
  match k with
  | ⟨0, _⟩ =>
    refine Eq.trans (b := min (BitVec.ofNat 32 a.val).toInt.toNat (512 - 1)) ?_ (start_of_word a.isLt (by decide))
    rw [← ha]
    show min (idx _).toInt.toNat _ + 0 + 0 = _
    refine congrArg (fun j => min (idx j).toInt.toNat 511) (funext fun q => Fin.ext ?_)
    match q with
    | ⟨0, _⟩ => rfl
    | ⟨1, _⟩ => rfl
  | ⟨1, _⟩ =>
    refine Eq.trans (b := min (BitVec.ofNat 32 b.val).toInt.toNat (16 - 1)) ?_ (start_of_word b.isLt (by decide))
    rw [← hb]
    show min (idx _).toInt.toNat _ + 0 + 0 = _
    refine congrArg (fun j => min (idx j).toInt.toNat 15) (funext fun q => Fin.ext ?_)
    match q with
    | ⟨0, _⟩ => rfl
    | ⟨1, _⟩ => rfl

/-- Token `i`'s row of a 16 × 512 × 512 table, at the pair of words (`a`, `b`), read at column `l`. -/
theorem pick_row {α : Type} (v : S16x512x512.Idx → α) (idx : IVec S512x2 32) (i b l : Fin 512) (a : Fin 16)
    (ha : idx (ix2 i 0) = BitVec.ofNat 32 a.val) (hb : idx (ix2 i 1) = BitVec.ofNat 32 b.val) :
    Host.gather gather_S16x512x512_S512x2_S512x512_1_01_n_n_01_1_11512 v idx (ix2 i l) = v (ix3 a b l) := by
  unfold Host.gather
  refine congrArg v (funext fun k => Fin.ext ?_)
  match k with
  | ⟨0, _⟩ =>
    refine Eq.trans (b := min (BitVec.ofNat 32 a.val).toInt.toNat (16 - 1)) ?_ (start_of_word a.isLt (by decide))
    rw [← ha]
    show min (idx _).toInt.toNat _ + 0 + 0 = _
    refine congrArg (fun j => min (idx j).toInt.toNat 15) (funext fun q => Fin.ext ?_)
    match q with
    | ⟨0, _⟩ => rfl
    | ⟨1, _⟩ => rfl
  | ⟨1, _⟩ =>
    refine Eq.trans (b := min (BitVec.ofNat 32 b.val).toInt.toNat (512 - 1)) ?_ (start_of_word b.isLt (by decide))
    rw [← hb]
    show min (idx _).toInt.toNat _ + 0 + 0 = _
    refine congrArg (fun j => min (idx j).toInt.toNat 511) (funext fun q => Fin.ext ?_)
    match q with
    | ⟨0, _⟩ => rfl
    | ⟨1, _⟩ => rfl
  | ⟨2, _⟩ =>
    show 0 + 0 + l.val = l.val
    omega

end Cert.Butterfly

end
-- ==== Proof.Reference.lean ====
/-
# What the reference computes

Where every token names two experts in range, the reference's result is the mixture of the plain mathematics.
-/
module

public import proofs.«01_k».proof.Proof.Gather
public import proofs.«01_k».proof.Proof.Mixture
public import proofs.«01_k».proof.Proof.Gen.ReferenceIdeal.Run
public import Idealize.ShloMosaic.Lib.Tactic.CleanTypes
public import Idealize.ShloMosaic.Lib.Routing.OpsPair

@[expose] public section

set_option maxRecDepth 16384

noncomputable section

namespace Cert.Butterfly

open Cert.ReferenceIdeal Cert.ReferenceIdeal.Gen
open Idealize.ShloMosaic Idealize.ShloMosaic.TcCoe Idealize.SL.Sem

/-- A word that holds a small number is not negative, so the wrap of a negative index leaves it. -/
theorem wrap_word (n : ℕ) (hn : n < 512) (a : BitVec 32) :
    Scalar.select (IntOp.cmpi .slt (BitVec.ofNat 32 n) 0#32) a (BitVec.ofNat 32 n) = BitVec.ofNat 32 n :=
  Routing.wrap_of_lt _ _ (by rw [BitVec.toNat_ofNat]; omega)

variable (m : (ℓ : Loc nD τ sig) → Buf (Elt Ideal) ℓ)

/-- The reference's arguments, by their coordinates. -/
def refX (i : Fin 512) (k : Fin 256) : EReal := (m ((Dev.tc 0).loc main_arg0) : FVec Ideal S512x256 .bf16) (ix2 i k)
def refR (k : Fin 256) (e : Fin 16) : EReal := (m ((Dev.tc 0).loc main_arg1) : FVec Ideal S256x16 .bf16) (ix2 k e)
def refI (i : Fin 512) (j : Fin 2) : BitVec 32 := (m ((Dev.tc 0).loc main_arg2) : IVec S512x2 32) (ix2 i j)
def refW (e : Fin 16) (k : Fin 256) (l : Fin 512) : EReal :=
  (m ((Dev.tc 0).loc main_arg3) : FVec Ideal S16x256x512 .bf16) (ix3 e k l)

/-- The reference's result is the mixture, `t` and `u` the experts its index columns name. -/
theorem reference_eq (t u : Fin 512 → Fin 16) (ht : ∀ i, refI m i 0 = BitVec.ofNat 32 (t i).val)
    (hu : ∀ i, refI m i 1 = BitVec.ofNat 32 (u i).val) (i l : Fin 512) :
    Value.res_main_v85 m 0 (ix2 i l) = mixture (refX m) (refR m) (refW m) t u i l := by
  have hi := i.isLt
  have hti := (t i).isLt
  have hui := (u i).isLt
  have et : (m ((Dev.tc 0).loc main_arg2) : IVec S512x2 32) (ix2 i 0) = BitVec.ofNat 32 (t i).val := ht i
  have eu : (m ((Dev.tc 0).loc main_arg2) : IVec S512x2 32) (ix2 i 1) = BitVec.ofNat 32 (u i).val := hu i
  unfold Value.res_main_v85
  clean_types
  pointwise
  rw [pick_entry _ _ i i (t i) (by pointwise; exact wrap_word _ hi _)
      (by pointwise; rw [et]; exact wrap_word _ (by omega) _),
    pick_entry _ _ i i (u i) (by pointwise; exact wrap_word _ hi _)
      (by pointwise; rw [eu]; exact wrap_word _ (by omega) _),
    pick_row _ _ i i l (t i) (by pointwise; rw [et]; exact wrap_word _ (by omega) _)
      (by pointwise; exact wrap_word _ hi _),
    pick_row _ _ i i l (u i) (by pointwise; rw [eu]; exact wrap_word _ (by omega) _)
      (by pointwise; exact wrap_word _ hi _)]
  pointwise
  have hy : ∀ e : Fin 16, ∑ k, refW m e k l * refX m i k = product (refX m) (refW m) i e l :=
    fun e => Finset.sum_congr rfl fun k _ => mul_comm _ _
  exact Ideal.add_congr (Ideal.mul_congr rfl (hy (t i))) (Ideal.mul_congr rfl (hy (u i)))

end Cert.Butterfly

end
-- ==== Proof.Equal.lean ====
/-
# The kernel's result is the reference's

On every launch whose tokens name two different experts in range, every device's result array is the reference's.
-/
module

public import proofs.«01_k».proof.Defs
public import proofs.«01_k».proof.Proof.Run
public import proofs.«01_k».proof.Proof.Total
public import proofs.«01_k».proof.Proof.Routes
public import proofs.«01_k».proof.Proof.Reference

@[expose] public section

noncomputable section

namespace Cert.Butterfly

open Idealize.ShloMosaic Idealize.SL.Sem

/-- Device `c`'s block of the experts: its two experts among the sixteen. -/
theorem block_expert (v : (⟨3, ![16, 256, 512]⟩ : Shape).Idx → EReal) (c : Fin 8) (j : Fin 2) (k : Fin 256) (l : Fin 512) :
    Layout.block ⟨3, ![2, 256, 512]⟩ ⟨3, ![16, 256, 512]⟩ 0 8 c v (by decide) (ix3 j k l) = v (ix3 (expertOf c j) k l) := by
  refine congrArg v (funext fun b => Fin.ext ?_)
  match b with
  | ⟨0, _⟩ => exact congrArg (· + j.val) (Nat.mul_comm c.val 2)
  | ⟨1, _⟩ => rfl
  | ⟨2, _⟩ => rfl

/-- The value claim. -/
theorem algebraic : Cert.algebraic_KernelIdeal_ReferenceIdeal_pre_two_experts_KernelIdeal := fun m g m' g' hpre hagree => by
  have hpre0 := hpre 0
  rw [(hagree 0).2.2.1] at hpre0
  have ht := named_word hpre0 0
  have hu := named_word hpre0 1
  have hne := named_ne hpre0
  have hold : Holds m (refX m') (refR m') (refW m') _ _ :=
    { x := fun c i k => congrFun (hagree c).1 (ix2 i k)
      r := fun c k e => congrFun (hagree c).2.1 (ix2 k e)
      t := fun c i => (congrFun (hagree c).2.2.1 (ix2 i 0)).trans (ht i)
      u := fun c i => (congrFun (hagree c).2.2.1 (ix2 i 1)).trans (hu i)
      w := fun c j k l => (congrFun (hagree c).2.2.2 (ix3 j k l)).trans (block_expert _ c j k l) }
  have hout : ∀ c, outAt m c = Cert.ReferenceIdeal.Value.res_main_v85 m' 0 := fun c => funext fun x => by
    rw [eq_ix2 x]
    exact (outAt_eq hold hne c (x 0) (x 1)).trans (reference_eq m' _ _ ht hu (x 0) (x 1)).symm
  refine ⟨Cert.ReferenceIdeal.Value.res_main_v85 m' 0, ?_, ?_⟩
  · exact (θ_run Cert.KernelIdeal.defs _ _).mono (fun r h c => ⟨(h.1 c).1.trans (hout c), (h.1 c).2⟩) (run_ends m g)
  · exact (θ_run Cert.ReferenceIdeal.defs _ _).mono (fun r h => h 0) (Cert.ReferenceIdeal.Value.run (F := Ideal) m' g')

end Cert.Butterfly

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal
public import proofs.«01_k».proof.Proof.Gen.ReferenceIdeal.Run
public import proofs.«01_k».proof.Proof.Gen.Pre_two_experts_KernelIdeal
public import proofs.«01_k».proof.Proof.Gen.Pre_two_experts_ReferenceIdeal
public import proofs.«01_k».proof.Proof.Frames
public import proofs.«01_k».proof.Proof.Equal

@[expose] public section

noncomputable section

namespace Cert.Proof

theorem claim : Cert.Claim := ⟨Cert.Kernel.Gen.facts, Cert.KernelIdeal.Gen.facts, Cert.ReferenceIdeal.Gen.facts,
  Cert.Pre_two_experts_KernelIdeal.Gen.facts, Cert.Pre_two_experts_ReferenceIdeal.Gen.facts,
  Cert.Butterfly.frame_kernel, Cert.Butterfly.frame_kernelIdeal, fun m g _ => Cert.Butterfly.frame_kernelIdeal m g trivial,
  Cert.Butterfly.frame_referenceIdeal, fun m g _ => Cert.Butterfly.frame_referenceIdeal m g trivial, trivial,
  Cert.Butterfly.algebraic⟩

end Cert.Proof

end
